-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v19_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x128 : Shape := ⟨3, ![8, 1024, 128]⟩
abbrev S_ : Shape := ⟨0, ![]⟩

class Facts : Prop where
  bcast_S_S8x1024x128 : S_.BroadcastsInDim S8x1024x128 (![] : Fin 0 → Fin S8x1024x128.rank)

variable [Facts]

def fn {F : FTy → Type} [FloatOps F] (main_arg0 : FVec F S8x1024x128 .f32) : IVec S8x1024x128 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  main_v2
-- ==== Kernel.lean ====
abbrev S8x1024x128 : Shape := ⟨3, ![8, 1024, 128]⟩
abbrev S8192x128 : Shape := ⟨2, ![8192, 128]⟩
abbrev S_ : Shape := ⟨0, ![]⟩
abbrev S1 : Shape := ⟨1, ![1]⟩
abbrev S2 : Shape := ⟨1, ![2]⟩
abbrev S8192 : Shape := ⟨1, ![8192]⟩
abbrev S2x1 : Shape := ⟨2, ![2, 1]⟩
abbrev S2x2 : Shape := ⟨2, ![2, 2]⟩
abbrev S1x2 : Shape := ⟨2, ![1, 2]⟩
abbrev S300 : Shape := ⟨1, ![300]⟩
abbrev S300x1 : Shape := ⟨2, ![300, 1]⟩
abbrev S300x128 : Shape := ⟨2, ![300, 128]⟩
abbrev S8192x1 : Shape := ⟨2, ![8192, 1]⟩
abbrev S1x8192 : Shape := ⟨2, ![1, 8192]⟩
abbrev S8192x512 : Shape := ⟨2, ![8192, 512]⟩
abbrev S300x8192 : Shape := ⟨2, ![300, 8192]⟩
abbrev S300x2048 : Shape := ⟨2, ![300, 2048]⟩
abbrev S2048x128 : Shape := ⟨2, ![2048, 128]⟩
abbrev S1x2048 : Shape := ⟨2, ![1, 2048]⟩
abbrev S2048 : Shape := ⟨1, ![2048]⟩
abbrev S2048x512 : Shape := ⟨2, ![2048, 512]⟩
abbrev S300x512 : Shape := ⟨2, ![300, 512]⟩
abbrev S8x1024 : Shape := ⟨2, ![8, 1024]⟩

abbrev nBuf : Space → Nat
  | .hbm => 993
  | .vmem => 13
  | .smem => 0
  | _ => 0

abbrev hbmTy0_0 (i : Nat) : BufTy := match i % 128 with
  | 0 => ⟨S8x1024x128, .f32⟩
  | 1 => ⟨S8192x128, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S8192, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x1024x128, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S8x1024x128, .f32⟩

abbrev hbmTy0_2 (i : Nat) : BufTy := match i % 128 with
  | 0 => ⟨S_, .i32⟩
  | 1 => ⟨S1, .i32⟩
  | 2 => ⟨S_, .i32⟩
  | 3 => ⟨S8192, .i64⟩
  | 4 => ⟨S_, .i64⟩
  | 5 => ⟨S8192, .i64⟩
  | 6 => ⟨S8192, .i64⟩
  | 7 => ⟨S_, .i64⟩
  | 8 => ⟨S8192, .i64⟩
  | 9 => ⟨S8192, .i64⟩
  | 10 => ⟨S8192, .i32⟩
  | 11 => ⟨S8192, .i32⟩
  | 12 => ⟨S_, .i32⟩
  | 13 => ⟨S_, .i32⟩
  | 14 => ⟨S_, .i32⟩
  | 15 => ⟨S8192, .i32⟩
  | 16 => ⟨S8192, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S8x1024x128, .f32⟩

abbrev hbmTy0_3 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .i32⟩
  | 108 => ⟨S8192, .i32⟩
  | 109 => ⟨S1, .i32⟩
  | 110 => ⟨S_, .i32⟩
  | 111 => ⟨S1, .i32⟩
  | 112 => ⟨S_, .i32⟩
  | 113 => ⟨S2, .i64⟩
  | 114 => ⟨S_, .i64⟩
  | 115 => ⟨S2, .i64⟩
  | 116 => ⟨S2, .i64⟩
  | 117 => ⟨S_, .i64⟩
  | 118 => ⟨S2, .i64⟩
  | 119 => ⟨S2, .i64⟩
  | 120 => ⟨S2, .i32⟩
  | 121 => ⟨S2, .i32⟩
  | 122 => ⟨S_, .i32⟩
  | 123 => ⟨S_, .i32⟩
  | 124 => ⟨S_, .i32⟩
  | 125 => ⟨S2, .i32⟩
  | 126 => ⟨S2, .i32⟩
  | 127 => ⟨S2, .i32⟩
  | _ => ⟨S8x1024x128, .f32⟩

abbrev hbmTy0_4 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S8x1024x128, .f32⟩

abbrev hbmTy0_5 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2x1, .i32⟩
  | 89 => ⟨S2x1, .i32⟩
  | 90 => ⟨S2x2, .i32⟩
  | 91 => ⟨S1x2, .i32⟩
  | 92 => ⟨S2, .i32⟩
  | 93 => ⟨S1x2, .i32⟩
  | 94 => ⟨S2, .i32⟩
  | 95 => ⟨S1, .i32⟩
  | 96 => ⟨S_, .i32⟩
  | 97 => ⟨S1, .i32⟩
  | 98 => ⟨S_, .i32⟩
  | 99 => ⟨S8192, .i64⟩
  | 100 => ⟨S_, .i64⟩
  | 101 => ⟨S8192, .i64⟩
  | 102 => ⟨S8192, .i64⟩
  | 103 => ⟨S_, .i64⟩
  | 104 => ⟨S8192, .i64⟩
  | 105 => ⟨S8192, .i64⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .i32⟩
  | 124 => ⟨S8192, .i32⟩
  | 125 => ⟨S_, .i32⟩
  | 126 => ⟨S8192, .i32⟩
  | 127 => ⟨S8192, .i32⟩
  | _ => ⟨S8x1024x128, .f32⟩

abbrev hbmTy0_6 (i : Nat) : BufTy := match i % 128 with
  | 0 => ⟨S_, .i32⟩
  | 1 => ⟨S8192, .i32⟩
  | 2 => ⟨S8192, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192, .i32⟩
  | 81 => ⟨S8192, .i32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192, .i32⟩
  | 108 => ⟨S8192, .i32⟩
  | 109 => ⟨S8192, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .i32⟩
  | 124 => ⟨S8192, .i32⟩
  | 125 => ⟨S8192, .i32⟩
  | 126 => ⟨S_, .i32⟩
  | 127 => ⟨S8192, .i32⟩
  | _ => ⟨S8x1024x128, .f32⟩

abbrev hbmTy0_7 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .i32⟩
  | 75 => ⟨S8192, .i32⟩
  | 76 => ⟨S8192, .i32⟩
  | 77 => ⟨S300, .i32⟩
  | 78 => ⟨S_, .i32⟩
  | 79 => ⟨S300, .i32⟩
  | 80 => ⟨S300, .i1⟩
  | 81 => ⟨S_, .i32⟩
  | 82 => ⟨S300, .i32⟩
  | 83 => ⟨S300, .i32⟩
  | 84 => ⟨S300, .i32⟩
  | 85 => ⟨S300x1, .i32⟩
  | 86 => ⟨S300x128, .f32⟩
  | 87 => ⟨S8192x128, .f32⟩
  | 88 => ⟨S_, .f32⟩
  | 89 => ⟨S8192, .f32⟩
  | 90 => ⟨S8192x1, .f32⟩
  | 91 => ⟨S1x8192, .f32⟩
  | 92 => ⟨S8192x128, .f32⟩
  | 93 => ⟨S1x8192, .i32⟩
  | 94 => ⟨S300x128, .f32⟩
  | 95 => ⟨S8x1024, .i32⟩
  | 96 => ⟨S8x1024x128, .f32⟩
  | _ => ⟨S8x1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x1024x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S1x8192, .f32⟩
  | .local _ .vmem, ⟨3, _⟩ => ⟨S300x128, .f32⟩
  | .local _ .vmem, ⟨4, _⟩ => ⟨S8192x128, .f32⟩
  | .local _ .vmem, ⟨5, _⟩ => ⟨S1x8192, .i32⟩
  | .local _ .vmem, ⟨6, _⟩ => ⟨S300x128, .f32⟩
  | .local _ .vmem, ⟨7, _⟩ => ⟨S8192x128, .f32⟩
  | .local _ .vmem, ⟨8, _⟩ => ⟨S8192x512, .bf16⟩
  | .local _ .vmem, ⟨9, _⟩ => ⟨S300x128, .f32⟩
  | .local _ .vmem, ⟨10, _⟩ => ⟨S300x1, .f32⟩
  | .local _ .vmem, ⟨11, _⟩ => ⟨S300x128, .f32⟩
  | .local _ .vmem, ⟨12, _⟩ => ⟨S300x1, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_call0_v18_1 : Ref sig .tc := ⟨.hbm, 492, rfl⟩
abbrev main_call0_call2_v0 : Ref sig .tc := ⟨.hbm, 493, rfl⟩
abbrev main_call0_call2_v1 : Ref sig .tc := ⟨.hbm, 494, rfl⟩
abbrev main_call0_call2_v2 : Ref sig .tc := ⟨.hbm, 495, rfl⟩
abbrev main_call0_call2_v3 : Ref sig .tc := ⟨.hbm, 496, rfl⟩
abbrev main_call0_call2_v4 : Ref sig .tc := ⟨.hbm, 497, rfl⟩
abbrev main_call0_call2_c : Ref sig .tc := ⟨.hbm, 498, rfl⟩
abbrev main_call0_call2_v5 : Ref sig .tc := ⟨.hbm, 499, rfl⟩
abbrev main_call0_call2_v6 : Ref sig .tc := ⟨.hbm, 500, rfl⟩
abbrev main_call0_call2_c_0 : Ref sig .tc := ⟨.hbm, 501, rfl⟩
abbrev main_call0_call2_v7 : Ref sig .tc := ⟨.hbm, 502, rfl⟩
abbrev main_call0_call2_v8 : Ref sig .tc := ⟨.hbm, 503, rfl⟩
abbrev main_call0_call2_v9 : Ref sig .tc := ⟨.hbm, 504, rfl⟩
abbrev main_call0_call2_v10 : Ref sig .tc := ⟨.hbm, 505, rfl⟩
abbrev main_call0_call2_call0_v0 : Ref sig .tc := ⟨.hbm, 506, rfl⟩
abbrev main_call0_call2_call0_c : Ref sig .tc := ⟨.hbm, 507, rfl⟩
abbrev main_call0_call2_call0_v1 : Ref sig .tc := ⟨.hbm, 508, rfl⟩
abbrev main_call0_call2_call0_v2 : Ref sig .tc := ⟨.hbm, 509, rfl⟩
abbrev main_call0_call2_call0_v3 : Ref sig .tc := ⟨.hbm, 510, rfl⟩
abbrev main_call0_call2_call0_v4 : Ref sig .tc := ⟨.hbm, 511, rfl⟩
abbrev main_call0_call2_call0_v5 : Ref sig .tc := ⟨.hbm, 512, rfl⟩
abbrev main_call0_call2_call0_v6 : Ref sig .tc := ⟨.hbm, 513, rfl⟩
abbrev main_call0_call2_call0_c_0 : Ref sig .tc := ⟨.hbm, 514, rfl⟩
abbrev main_call0_call2_call0_v7 : Ref sig .tc := ⟨.hbm, 515, rfl⟩
abbrev main_call0_call2_call0_v8 : Ref sig .tc := ⟨.hbm, 516, rfl⟩
abbrev main_call0_call2_call0_c_1 : Ref sig .tc := ⟨.hbm, 517, rfl⟩
abbrev main_call0_call2_call0_v9 : Ref sig .tc := ⟨.hbm, 518, rfl⟩
abbrev main_call0_call2_call0_v10 : Ref sig .tc := ⟨.hbm, 519, rfl⟩
abbrev main_call0_call2_call0_v11 : Ref sig .tc := ⟨.hbm, 520, rfl⟩
abbrev main_call0_call2_call0_v12 : Ref sig .tc := ⟨.hbm, 521, rfl⟩
abbrev main_call0_call2_call0_v13 : Ref sig .tc := ⟨.hbm, 522, rfl⟩
abbrev main_call0_call2_call0_c_2 : Ref sig .tc := ⟨.hbm, 523, rfl⟩
abbrev main_call0_call2_call0_v14 : Ref sig .tc := ⟨.hbm, 524, rfl⟩
abbrev main_call0_call2_call0_v15 : Ref sig .tc := ⟨.hbm, 525, rfl⟩
abbrev main_call0_call2_call0_c_3 : Ref sig .tc := ⟨.hbm, 526, rfl⟩
abbrev main_call0_call2_call0_v16 : Ref sig .tc := ⟨.hbm, 527, rfl⟩
abbrev main_call0_call2_call0_v17 : Ref sig .tc := ⟨.hbm, 528, rfl⟩
abbrev main_call0_call2_call0_v18 : Ref sig .tc := ⟨.hbm, 529, rfl⟩
abbrev main_call0_call2_call0_v19 : Ref sig .tc := ⟨.hbm, 530, rfl⟩
abbrev main_call0_call2_call0_v20 : Ref sig .tc := ⟨.hbm, 531, rfl⟩
abbrev main_call0_call2_call0_c_4 : Ref sig .tc := ⟨.hbm, 532, rfl⟩
abbrev main_call0_call2_call0_v21 : Ref sig .tc := ⟨.hbm, 533, rfl⟩
abbrev main_call0_call2_call0_v22 : Ref sig .tc := ⟨.hbm, 534, rfl⟩
abbrev main_call0_call2_call0_c_5 : Ref sig .tc := ⟨.hbm, 535, rfl⟩
abbrev main_call0_call2_call0_v23 : Ref sig .tc := ⟨.hbm, 536, rfl⟩
abbrev main_call0_call2_call0_v24 : Ref sig .tc := ⟨.hbm, 537, rfl⟩
abbrev main_call0_call2_call0_v25 : Ref sig .tc := ⟨.hbm, 538, rfl⟩
abbrev main_call0_call2_call0_v26 : Ref sig .tc := ⟨.hbm, 539, rfl⟩
abbrev main_call0_call2_call0_v27 : Ref sig .tc := ⟨.hbm, 540, rfl⟩
abbrev main_call0_call2_call0_c_6 : Ref sig .tc := ⟨.hbm, 541, rfl⟩
abbrev main_call0_call2_call0_v28 : Ref sig .tc := ⟨.hbm, 542, rfl⟩
abbrev main_call0_call2_call0_v29 : Ref sig .tc := ⟨.hbm, 543, rfl⟩
abbrev main_call0_call2_call0_c_7 : Ref sig .tc := ⟨.hbm, 544, rfl⟩
abbrev main_call0_call2_call0_v30 : Ref sig .tc := ⟨.hbm, 545, rfl⟩
abbrev main_call0_call2_call0_v31 : Ref sig .tc := ⟨.hbm, 546, rfl⟩
abbrev main_call0_call2_call0_v32 : Ref sig .tc := ⟨.hbm, 547, rfl⟩
abbrev main_call0_call2_call0_v33 : Ref sig .tc := ⟨.hbm, 548, rfl⟩
abbrev main_call0_call2_call0_v34 : Ref sig .tc := ⟨.hbm, 549, rfl⟩
abbrev main_call0_call2_call0_v35 : Ref sig .tc := ⟨.hbm, 550, rfl⟩
abbrev main_call0_call2_call0_v36 : Ref sig .tc := ⟨.hbm, 551, rfl⟩
abbrev main_call0_call2_call0_v37 : Ref sig .tc := ⟨.hbm, 552, rfl⟩
abbrev main_call0_call2_call0_c_8 : Ref sig .tc := ⟨.hbm, 553, rfl⟩
abbrev main_call0_call2_call0_v38 : Ref sig .tc := ⟨.hbm, 554, rfl⟩
abbrev main_call0_call2_call0_v39 : Ref sig .tc := ⟨.hbm, 555, rfl⟩
abbrev main_call0_call2_call0_v40 : Ref sig .tc := ⟨.hbm, 556, rfl⟩
abbrev main_call0_call2_call0_c_9 : Ref sig .tc := ⟨.hbm, 557, rfl⟩
abbrev main_call0_call2_call0_v41 : Ref sig .tc := ⟨.hbm, 558, rfl⟩
abbrev main_call0_call2_call0_v42 : Ref sig .tc := ⟨.hbm, 559, rfl⟩
abbrev main_call0_call2_call0_c_10 : Ref sig .tc := ⟨.hbm, 560, rfl⟩
abbrev main_call0_call2_call0_v43 : Ref sig .tc := ⟨.hbm, 561, rfl⟩
abbrev main_call0_call2_call0_v44 : Ref sig .tc := ⟨.hbm, 562, rfl⟩
abbrev main_call0_call2_call0_v45 : Ref sig .tc := ⟨.hbm, 563, rfl⟩
abbrev main_call0_call2_call0_v46 : Ref sig .tc := ⟨.hbm, 564, rfl⟩
abbrev main_call0_call2_call0_v47 : Ref sig .tc := ⟨.hbm, 565, rfl⟩
abbrev main_call0_call2_call0_c_11 : Ref sig .tc := ⟨.hbm, 566, rfl⟩
abbrev main_call0_call2_call0_v48 : Ref sig .tc := ⟨.hbm, 567, rfl⟩
abbrev main_call0_call2_call0_v49 : Ref sig .tc := ⟨.hbm, 568, rfl⟩
abbrev main_call0_call2_call0_c_12 : Ref sig .tc := ⟨.hbm, 569, rfl⟩
abbrev main_call0_call2_call0_v50 : Ref sig .tc := ⟨.hbm, 570, rfl⟩
abbrev main_call0_call2_call0_v51 : Ref sig .tc := ⟨.hbm, 571, rfl⟩
abbrev main_call0_call2_call0_v52 : Ref sig .tc := ⟨.hbm, 572, rfl⟩
abbrev main_call0_call2_call0_v53 : Ref sig .tc := ⟨.hbm, 573, rfl⟩
abbrev main_call0_call2_call0_v54 : Ref sig .tc := ⟨.hbm, 574, rfl⟩
abbrev main_call0_call2_call0_c_13 : Ref sig .tc := ⟨.hbm, 575, rfl⟩
abbrev main_call0_call2_call0_v55 : Ref sig .tc := ⟨.hbm, 576, rfl⟩
abbrev main_call0_call2_call0_v56 : Ref sig .tc := ⟨.hbm, 577, rfl⟩
abbrev main_call0_call2_call0_c_14 : Ref sig .tc := ⟨.hbm, 578, rfl⟩
abbrev main_call0_call2_call0_v57 : Ref sig .tc := ⟨.hbm, 579, rfl⟩
abbrev main_call0_call2_call0_v58 : Ref sig .tc := ⟨.hbm, 580, rfl⟩
abbrev main_call0_call2_call0_v59 : Ref sig .tc := ⟨.hbm, 581, rfl⟩
abbrev main_call0_call2_call0_v60 : Ref sig .tc := ⟨.hbm, 582, rfl⟩
abbrev main_call0_call2_call0_v61 : Ref sig .tc := ⟨.hbm, 583, rfl⟩
abbrev main_call0_call2_call0_c_15 : Ref sig .tc := ⟨.hbm, 584, rfl⟩
abbrev main_call0_call2_call0_v62 : Ref sig .tc := ⟨.hbm, 585, rfl⟩
abbrev main_call0_call2_call0_v63 : Ref sig .tc := ⟨.hbm, 586, rfl⟩
abbrev main_call0_call2_call0_c_16 : Ref sig .tc := ⟨.hbm, 587, rfl⟩
abbrev main_call0_call2_call0_v64 : Ref sig .tc := ⟨.hbm, 588, rfl⟩
abbrev main_call0_call2_call0_v65 : Ref sig .tc := ⟨.hbm, 589, rfl⟩
abbrev main_call0_call2_call0_v66 : Ref sig .tc := ⟨.hbm, 590, rfl⟩
abbrev main_call0_call2_call0_v67 : Ref sig .tc := ⟨.hbm, 591, rfl⟩
abbrev main_call0_call2_call0_v68 : Ref sig .tc := ⟨.hbm, 592, rfl⟩
abbrev main_call0_call2_call0_v69 : Ref sig .tc := ⟨.hbm, 593, rfl⟩
abbrev main_call0_call2_call0_v70 : Ref sig .tc := ⟨.hbm, 594, rfl⟩
abbrev main_call0_call2_call0_v71 : Ref sig .tc := ⟨.hbm, 595, rfl⟩
abbrev main_call0_call2_call0_c_17 : Ref sig .tc := ⟨.hbm, 596, rfl⟩
abbrev main_call0_call2_call0_v72 : Ref sig .tc := ⟨.hbm, 597, rfl⟩
abbrev main_call0_call2_call0_v73 : Ref sig .tc := ⟨.hbm, 598, rfl⟩
abbrev main_call0_call2_call0_v74 : Ref sig .tc := ⟨.hbm, 599, rfl⟩
abbrev main_call0_call2_call0_c_18 : Ref sig .tc := ⟨.hbm, 600, rfl⟩
abbrev main_call0_call2_call0_v75 : Ref sig .tc := ⟨.hbm, 601, rfl⟩
abbrev main_call0_call2_call0_v76 : Ref sig .tc := ⟨.hbm, 602, rfl⟩
abbrev main_call0_call2_call0_c_19 : Ref sig .tc := ⟨.hbm, 603, rfl⟩
abbrev main_call0_call2_call0_v77 : Ref sig .tc := ⟨.hbm, 604, rfl⟩
abbrev main_call0_call2_call0_v78 : Ref sig .tc := ⟨.hbm, 605, rfl⟩
abbrev main_call0_call2_call0_v79 : Ref sig .tc := ⟨.hbm, 606, rfl⟩
abbrev main_call0_call2_call0_v80 : Ref sig .tc := ⟨.hbm, 607, rfl⟩
abbrev main_call0_call2_call0_v81 : Ref sig .tc := ⟨.hbm, 608, rfl⟩
abbrev main_call0_call2_call0_c_20 : Ref sig .tc := ⟨.hbm, 609, rfl⟩
abbrev main_call0_call2_call0_v82 : Ref sig .tc := ⟨.hbm, 610, rfl⟩
abbrev main_call0_call2_call0_v83 : Ref sig .tc := ⟨.hbm, 611, rfl⟩
abbrev main_call0_call2_call0_c_21 : Ref sig .tc := ⟨.hbm, 612, rfl⟩
abbrev main_call0_call2_call0_v84 : Ref sig .tc := ⟨.hbm, 613, rfl⟩
abbrev main_call0_call2_call0_v85 : Ref sig .tc := ⟨.hbm, 614, rfl⟩
abbrev main_call0_call2_call0_v86 : Ref sig .tc := ⟨.hbm, 615, rfl⟩
abbrev main_call0_call2_call0_v87 : Ref sig .tc := ⟨.hbm, 616, rfl⟩
abbrev main_call0_call2_call0_v88 : Ref sig .tc := ⟨.hbm, 617, rfl⟩
abbrev main_call0_call2_call0_c_22 : Ref sig .tc := ⟨.hbm, 618, rfl⟩
abbrev main_call0_call2_call0_v89 : Ref sig .tc := ⟨.hbm, 619, rfl⟩
abbrev main_call0_call2_call0_v90 : Ref sig .tc := ⟨.hbm, 620, rfl⟩
abbrev main_call0_call2_call0_c_23 : Ref sig .tc := ⟨.hbm, 621, rfl⟩
abbrev main_call0_call2_call0_v91 : Ref sig .tc := ⟨.hbm, 622, rfl⟩
abbrev main_call0_call2_call0_v92 : Ref sig .tc := ⟨.hbm, 623, rfl⟩
abbrev main_call0_call2_call0_v93 : Ref sig .tc := ⟨.hbm, 624, rfl⟩
abbrev main_call0_call2_call0_v94 : Ref sig .tc := ⟨.hbm, 625, rfl⟩
abbrev main_call0_call2_call0_v95 : Ref sig .tc := ⟨.hbm, 626, rfl⟩
abbrev main_call0_call2_call0_c_24 : Ref sig .tc := ⟨.hbm, 627, rfl⟩
abbrev main_call0_call2_call0_v96 : Ref sig .tc := ⟨.hbm, 628, rfl⟩
abbrev main_call0_call2_call0_v97 : Ref sig .tc := ⟨.hbm, 629, rfl⟩
abbrev main_call0_call2_call0_c_25 : Ref sig .tc := ⟨.hbm, 630, rfl⟩
abbrev main_call0_call2_call0_v98 : Ref sig .tc := ⟨.hbm, 631, rfl⟩
abbrev main_call0_call2_call0_v99 : Ref sig .tc := ⟨.hbm, 632, rfl⟩
abbrev main_call0_call2_call0_v100 : Ref sig .tc := ⟨.hbm, 633, rfl⟩
abbrev main_call0_call2_call0_v101 : Ref sig .tc := ⟨.hbm, 634, rfl⟩
abbrev main_call0_call2_call0_v102 : Ref sig .tc := ⟨.hbm, 635, rfl⟩
abbrev main_call0_call2_call0_v103 : Ref sig .tc := ⟨.hbm, 636, rfl⟩
abbrev main_call0_call2_call0_v104 : Ref sig .tc := ⟨.hbm, 637, rfl⟩
abbrev main_call0_call2_call0_v105 : Ref sig .tc := ⟨.hbm, 638, rfl⟩
abbrev main_call0_call2_call0_c_26 : Ref sig .tc := ⟨.hbm, 639, rfl⟩
abbrev main_call0_call2_call0_v106 : Ref sig .tc := ⟨.hbm, 640, rfl⟩
abbrev main_call0_call2_call0_v107 : Ref sig .tc := ⟨.hbm, 641, rfl⟩
abbrev main_call0_call2_call0_v108 : Ref sig .tc := ⟨.hbm, 642, rfl⟩
abbrev main_call0_call2_call0_c_27 : Ref sig .tc := ⟨.hbm, 643, rfl⟩
abbrev main_call0_call2_call0_v109 : Ref sig .tc := ⟨.hbm, 644, rfl⟩
abbrev main_call0_call2_call0_v110 : Ref sig .tc := ⟨.hbm, 645, rfl⟩
abbrev main_call0_call2_call0_c_28 : Ref sig .tc := ⟨.hbm, 646, rfl⟩
abbrev main_call0_call2_call0_v111 : Ref sig .tc := ⟨.hbm, 647, rfl⟩
abbrev main_call0_call2_call0_v112 : Ref sig .tc := ⟨.hbm, 648, rfl⟩
abbrev main_call0_call2_call0_v113 : Ref sig .tc := ⟨.hbm, 649, rfl⟩
abbrev main_call0_call2_call0_v114 : Ref sig .tc := ⟨.hbm, 650, rfl⟩
abbrev main_call0_call2_call0_v115 : Ref sig .tc := ⟨.hbm, 651, rfl⟩
abbrev main_call0_call2_call0_c_29 : Ref sig .tc := ⟨.hbm, 652, rfl⟩
abbrev main_call0_call2_call0_v116 : Ref sig .tc := ⟨.hbm, 653, rfl⟩
abbrev main_call0_call2_call0_v117 : Ref sig .tc := ⟨.hbm, 654, rfl⟩
abbrev main_call0_call2_call0_c_30 : Ref sig .tc := ⟨.hbm, 655, rfl⟩
abbrev main_call0_call2_call0_v118 : Ref sig .tc := ⟨.hbm, 656, rfl⟩
abbrev main_call0_call2_call0_v119 : Ref sig .tc := ⟨.hbm, 657, rfl⟩
abbrev main_call0_call2_call0_v120 : Ref sig .tc := ⟨.hbm, 658, rfl⟩
abbrev main_call0_call2_call0_v121 : Ref sig .tc := ⟨.hbm, 659, rfl⟩
abbrev main_call0_call2_call0_v122 : Ref sig .tc := ⟨.hbm, 660, rfl⟩
abbrev main_call0_call2_call0_c_31 : Ref sig .tc := ⟨.hbm, 661, rfl⟩
abbrev main_call0_call2_call0_v123 : Ref sig .tc := ⟨.hbm, 662, rfl⟩
abbrev main_call0_call2_call0_v124 : Ref sig .tc := ⟨.hbm, 663, rfl⟩
abbrev main_call0_call2_call0_c_32 : Ref sig .tc := ⟨.hbm, 664, rfl⟩
abbrev main_call0_call2_call0_v125 : Ref sig .tc := ⟨.hbm, 665, rfl⟩
abbrev main_call0_call2_call0_v126 : Ref sig .tc := ⟨.hbm, 666, rfl⟩
abbrev main_call0_call2_call0_v127 : Ref sig .tc := ⟨.hbm, 667, rfl⟩
abbrev main_call0_call2_call0_v128 : Ref sig .tc := ⟨.hbm, 668, rfl⟩
abbrev main_call0_call2_call0_v129 : Ref sig .tc := ⟨.hbm, 669, rfl⟩
abbrev main_call0_call2_call0_c_33 : Ref sig .tc := ⟨.hbm, 670, rfl⟩
abbrev main_call0_call2_call0_v130 : Ref sig .tc := ⟨.hbm, 671, rfl⟩
abbrev main_call0_call2_call0_v131 : Ref sig .tc := ⟨.hbm, 672, rfl⟩
abbrev main_call0_call2_call0_c_34 : Ref sig .tc := ⟨.hbm, 673, rfl⟩
abbrev main_call0_call2_call0_v132 : Ref sig .tc := ⟨.hbm, 674, rfl⟩
abbrev main_call0_call2_call0_v133 : Ref sig .tc := ⟨.hbm, 675, rfl⟩
abbrev main_call0_call2_call0_v134 : Ref sig .tc := ⟨.hbm, 676, rfl⟩
abbrev main_call0_call2_call0_v135 : Ref sig .tc := ⟨.hbm, 677, rfl⟩
abbrev main_call0_call2_call0_v136 : Ref sig .tc := ⟨.hbm, 678, rfl⟩
abbrev main_call0_call2_call0_v137 : Ref sig .tc := ⟨.hbm, 679, rfl⟩
abbrev main_call0_call2_call0_v138 : Ref sig .tc := ⟨.hbm, 680, rfl⟩
abbrev main_call0_call2_call0_v139 : Ref sig .tc := ⟨.hbm, 681, rfl⟩
abbrev main_call0_call2_call0_c_35 : Ref sig .tc := ⟨.hbm, 682, rfl⟩
abbrev main_call0_call2_call0_v140 : Ref sig .tc := ⟨.hbm, 683, rfl⟩
abbrev main_call0_call2_call0_v141 : Ref sig .tc := ⟨.hbm, 684, rfl⟩
abbrev main_call0_call2_call0_v142 : Ref sig .tc := ⟨.hbm, 685, rfl⟩
abbrev main_call0_call2_call0_c_36 : Ref sig .tc := ⟨.hbm, 686, rfl⟩
abbrev main_call0_call2_call0_v143 : Ref sig .tc := ⟨.hbm, 687, rfl⟩
abbrev main_call0_call2_call0_v144 : Ref sig .tc := ⟨.hbm, 688, rfl⟩
abbrev main_call0_call2_call0_c_37 : Ref sig .tc := ⟨.hbm, 689, rfl⟩
abbrev main_call0_call2_call0_v145 : Ref sig .tc := ⟨.hbm, 690, rfl⟩
abbrev main_call0_call2_call0_v146 : Ref sig .tc := ⟨.hbm, 691, rfl⟩
abbrev main_call0_call2_call0_v147 : Ref sig .tc := ⟨.hbm, 692, rfl⟩
abbrev main_call0_call2_call0_v148 : Ref sig .tc := ⟨.hbm, 693, rfl⟩
abbrev main_call0_call2_call0_v149 : Ref sig .tc := ⟨.hbm, 694, rfl⟩
abbrev main_call0_call2_call0_c_38 : Ref sig .tc := ⟨.hbm, 695, rfl⟩
abbrev main_call0_call2_call0_v150 : Ref sig .tc := ⟨.hbm, 696, rfl⟩
abbrev main_call0_call2_call0_v151 : Ref sig .tc := ⟨.hbm, 697, rfl⟩
abbrev main_call0_call2_call0_c_39 : Ref sig .tc := ⟨.hbm, 698, rfl⟩
abbrev main_call0_call2_call0_v152 : Ref sig .tc := ⟨.hbm, 699, rfl⟩
abbrev main_call0_call2_call0_v153 : Ref sig .tc := ⟨.hbm, 700, rfl⟩
abbrev main_call0_call2_call0_v154 : Ref sig .tc := ⟨.hbm, 701, rfl⟩
abbrev main_call0_call2_call0_v155 : Ref sig .tc := ⟨.hbm, 702, rfl⟩
abbrev main_call0_call2_call0_v156 : Ref sig .tc := ⟨.hbm, 703, rfl⟩
abbrev main_call0_call2_call0_c_40 : Ref sig .tc := ⟨.hbm, 704, rfl⟩
abbrev main_call0_call2_call0_v157 : Ref sig .tc := ⟨.hbm, 705, rfl⟩
abbrev main_call0_call2_call0_v158 : Ref sig .tc := ⟨.hbm, 706, rfl⟩
abbrev main_call0_call2_call0_c_41 : Ref sig .tc := ⟨.hbm, 707, rfl⟩
abbrev main_call0_call2_call0_v159 : Ref sig .tc := ⟨.hbm, 708, rfl⟩
abbrev main_call0_call2_call0_v160 : Ref sig .tc := ⟨.hbm, 709, rfl⟩
abbrev main_call0_call2_call0_v161 : Ref sig .tc := ⟨.hbm, 710, rfl⟩
abbrev main_call0_call2_call0_v162 : Ref sig .tc := ⟨.hbm, 711, rfl⟩
abbrev main_call0_call2_call0_v163 : Ref sig .tc := ⟨.hbm, 712, rfl⟩
abbrev main_call0_call2_call0_c_42 : Ref sig .tc := ⟨.hbm, 713, rfl⟩
abbrev main_call0_call2_call0_v164 : Ref sig .tc := ⟨.hbm, 714, rfl⟩
abbrev main_call0_call2_call0_v165 : Ref sig .tc := ⟨.hbm, 715, rfl⟩
abbrev main_call0_call2_call0_c_43 : Ref sig .tc := ⟨.hbm, 716, rfl⟩
abbrev main_call0_call2_call0_v166 : Ref sig .tc := ⟨.hbm, 717, rfl⟩
abbrev main_call0_call2_call0_v167 : Ref sig .tc := ⟨.hbm, 718, rfl⟩
abbrev main_call0_call2_call0_v168 : Ref sig .tc := ⟨.hbm, 719, rfl⟩
abbrev main_call0_call2_call0_v169 : Ref sig .tc := ⟨.hbm, 720, rfl⟩
abbrev main_call0_call2_call0_v170 : Ref sig .tc := ⟨.hbm, 721, rfl⟩
abbrev main_call0_call2_v11_0 : Ref sig .tc := ⟨.hbm, 722, rfl⟩
abbrev main_call0_call2_call0_v172 : Ref sig .tc := ⟨.hbm, 723, rfl⟩
abbrev main_call0_call2_call0_v173 : Ref sig .tc := ⟨.hbm, 724, rfl⟩
abbrev main_call0_call2_call0_c_44 : Ref sig .tc := ⟨.hbm, 725, rfl⟩
abbrev main_call0_call2_call0_v174 : Ref sig .tc := ⟨.hbm, 726, rfl⟩
abbrev main_call0_call2_v11_1 : Ref sig .tc := ⟨.hbm, 727, rfl⟩
abbrev main_call0_call2_v12 : Ref sig .tc := ⟨.hbm, 728, rfl⟩
abbrev main_call0_call2_v13 : Ref sig .tc := ⟨.hbm, 729, rfl⟩
abbrev main_call0_v19 : Ref sig .tc := ⟨.hbm, 730, rfl⟩
abbrev main_call0_v20 : Ref sig .tc := ⟨.hbm, 731, rfl⟩
abbrev main_call0_v21 : Ref sig .tc := ⟨.hbm, 732, rfl⟩
abbrev main_call0_v22 : Ref sig .tc := ⟨.hbm, 733, rfl⟩
abbrev main_call0_v23 : Ref sig .tc := ⟨.hbm, 734, rfl⟩
abbrev main_call0_v24 : Ref sig .tc := ⟨.hbm, 735, rfl⟩
abbrev main_call0_v25 : Ref sig .tc := ⟨.hbm, 736, rfl⟩
abbrev main_call0_v26 : Ref sig .tc := ⟨.hbm, 737, rfl⟩
abbrev main_call0_v27 : Ref sig .tc := ⟨.hbm, 738, rfl⟩
abbrev main_call0_v28 : Ref sig .tc := ⟨.hbm, 739, rfl⟩
abbrev main_call0_c_1 : Ref sig .tc := ⟨.hbm, 740, rfl⟩
abbrev main_call0_v29 : Ref sig .tc := ⟨.hbm, 741, rfl⟩
abbrev main_call0_v30 : Ref sig .tc := ⟨.hbm, 742, rfl⟩
abbrev main_call0_c_2 : Ref sig .tc := ⟨.hbm, 743, rfl⟩
abbrev main_call0_v31 : Ref sig .tc := ⟨.hbm, 744, rfl⟩
abbrev main_call0_v32 : Ref sig .tc := ⟨.hbm, 745, rfl⟩
abbrev main_call0_v33 : Ref sig .tc := ⟨.hbm, 746, rfl⟩
abbrev main_call0_v34 : Ref sig .tc := ⟨.hbm, 747, rfl⟩
abbrev main_call0_call3_v0 : Ref sig .tc := ⟨.hbm, 748, rfl⟩
abbrev main_call0_call3_c : Ref sig .tc := ⟨.hbm, 749, rfl⟩
abbrev main_call0_call3_v1 : Ref sig .tc := ⟨.hbm, 750, rfl⟩
abbrev main_call0_call3_v2 : Ref sig .tc := ⟨.hbm, 751, rfl⟩
abbrev main_call0_call3_v3 : Ref sig .tc := ⟨.hbm, 752, rfl⟩
abbrev main_call0_call3_v4 : Ref sig .tc := ⟨.hbm, 753, rfl⟩
abbrev main_call0_call3_v5 : Ref sig .tc := ⟨.hbm, 754, rfl⟩
abbrev main_call0_call3_v6 : Ref sig .tc := ⟨.hbm, 755, rfl⟩
abbrev main_call0_call3_c_0 : Ref sig .tc := ⟨.hbm, 756, rfl⟩
abbrev main_call0_call3_v7 : Ref sig .tc := ⟨.hbm, 757, rfl⟩
abbrev main_call0_call3_v8 : Ref sig .tc := ⟨.hbm, 758, rfl⟩
abbrev main_call0_call3_c_1 : Ref sig .tc := ⟨.hbm, 759, rfl⟩
abbrev main_call0_call3_v9 : Ref sig .tc := ⟨.hbm, 760, rfl⟩
abbrev main_call0_call3_v10 : Ref sig .tc := ⟨.hbm, 761, rfl⟩
abbrev main_call0_call3_v11 : Ref sig .tc := ⟨.hbm, 762, rfl⟩
abbrev main_call0_call3_v12 : Ref sig .tc := ⟨.hbm, 763, rfl⟩
abbrev main_call0_call3_v13 : Ref sig .tc := ⟨.hbm, 764, rfl⟩
abbrev main_call0_call3_c_2 : Ref sig .tc := ⟨.hbm, 765, rfl⟩
abbrev main_call0_call3_v14 : Ref sig .tc := ⟨.hbm, 766, rfl⟩
abbrev main_call0_call3_v15 : Ref sig .tc := ⟨.hbm, 767, rfl⟩
abbrev main_call0_call3_c_3 : Ref sig .tc := ⟨.hbm, 768, rfl⟩
abbrev main_call0_call3_v16 : Ref sig .tc := ⟨.hbm, 769, rfl⟩
abbrev main_call0_call3_v17 : Ref sig .tc := ⟨.hbm, 770, rfl⟩
abbrev main_call0_call3_v18 : Ref sig .tc := ⟨.hbm, 771, rfl⟩
abbrev main_call0_call3_v19 : Ref sig .tc := ⟨.hbm, 772, rfl⟩
abbrev main_call0_call3_v20 : Ref sig .tc := ⟨.hbm, 773, rfl⟩
abbrev main_call0_call3_c_4 : Ref sig .tc := ⟨.hbm, 774, rfl⟩
abbrev main_call0_call3_v21 : Ref sig .tc := ⟨.hbm, 775, rfl⟩
abbrev main_call0_call3_v22 : Ref sig .tc := ⟨.hbm, 776, rfl⟩
abbrev main_call0_call3_c_5 : Ref sig .tc := ⟨.hbm, 777, rfl⟩
abbrev main_call0_call3_v23 : Ref sig .tc := ⟨.hbm, 778, rfl⟩
abbrev main_call0_call3_v24 : Ref sig .tc := ⟨.hbm, 779, rfl⟩
abbrev main_call0_call3_v25 : Ref sig .tc := ⟨.hbm, 780, rfl⟩
abbrev main_call0_call3_v26 : Ref sig .tc := ⟨.hbm, 781, rfl⟩
abbrev main_call0_call3_v27 : Ref sig .tc := ⟨.hbm, 782, rfl⟩
abbrev main_call0_call3_c_6 : Ref sig .tc := ⟨.hbm, 783, rfl⟩
abbrev main_call0_call3_v28 : Ref sig .tc := ⟨.hbm, 784, rfl⟩
abbrev main_call0_call3_v29 : Ref sig .tc := ⟨.hbm, 785, rfl⟩
abbrev main_call0_call3_c_7 : Ref sig .tc := ⟨.hbm, 786, rfl⟩
abbrev main_call0_call3_v30 : Ref sig .tc := ⟨.hbm, 787, rfl⟩
abbrev main_call0_call3_v31 : Ref sig .tc := ⟨.hbm, 788, rfl⟩
abbrev main_call0_call3_v32 : Ref sig .tc := ⟨.hbm, 789, rfl⟩
abbrev main_call0_call3_v33 : Ref sig .tc := ⟨.hbm, 790, rfl⟩
abbrev main_call0_call3_v34 : Ref sig .tc := ⟨.hbm, 791, rfl⟩
abbrev main_call0_call3_v35 : Ref sig .tc := ⟨.hbm, 792, rfl⟩
abbrev main_call0_call3_v36 : Ref sig .tc := ⟨.hbm, 793, rfl⟩
abbrev main_call0_call3_v37 : Ref sig .tc := ⟨.hbm, 794, rfl⟩
abbrev main_call0_call3_c_8 : Ref sig .tc := ⟨.hbm, 795, rfl⟩
abbrev main_call0_call3_v38 : Ref sig .tc := ⟨.hbm, 796, rfl⟩
abbrev main_call0_call3_v39 : Ref sig .tc := ⟨.hbm, 797, rfl⟩
abbrev main_call0_call3_v40 : Ref sig .tc := ⟨.hbm, 798, rfl⟩
abbrev main_call0_call3_c_9 : Ref sig .tc := ⟨.hbm, 799, rfl⟩
abbrev main_call0_call3_v41 : Ref sig .tc := ⟨.hbm, 800, rfl⟩
abbrev main_call0_call3_v42 : Ref sig .tc := ⟨.hbm, 801, rfl⟩
abbrev main_call0_call3_c_10 : Ref sig .tc := ⟨.hbm, 802, rfl⟩
abbrev main_call0_call3_v43 : Ref sig .tc := ⟨.hbm, 803, rfl⟩
abbrev main_call0_call3_v44 : Ref sig .tc := ⟨.hbm, 804, rfl⟩
abbrev main_call0_call3_v45 : Ref sig .tc := ⟨.hbm, 805, rfl⟩
abbrev main_call0_call3_v46 : Ref sig .tc := ⟨.hbm, 806, rfl⟩
abbrev main_call0_call3_v47 : Ref sig .tc := ⟨.hbm, 807, rfl⟩
abbrev main_call0_call3_c_11 : Ref sig .tc := ⟨.hbm, 808, rfl⟩
abbrev main_call0_call3_v48 : Ref sig .tc := ⟨.hbm, 809, rfl⟩
abbrev main_call0_call3_v49 : Ref sig .tc := ⟨.hbm, 810, rfl⟩
abbrev main_call0_call3_c_12 : Ref sig .tc := ⟨.hbm, 811, rfl⟩
abbrev main_call0_call3_v50 : Ref sig .tc := ⟨.hbm, 812, rfl⟩
abbrev main_call0_call3_v51 : Ref sig .tc := ⟨.hbm, 813, rfl⟩
abbrev main_call0_call3_v52 : Ref sig .tc := ⟨.hbm, 814, rfl⟩
abbrev main_call0_call3_v53 : Ref sig .tc := ⟨.hbm, 815, rfl⟩
abbrev main_call0_call3_v54 : Ref sig .tc := ⟨.hbm, 816, rfl⟩
abbrev main_call0_call3_c_13 : Ref sig .tc := ⟨.hbm, 817, rfl⟩
abbrev main_call0_call3_v55 : Ref sig .tc := ⟨.hbm, 818, rfl⟩
abbrev main_call0_call3_v56 : Ref sig .tc := ⟨.hbm, 819, rfl⟩
abbrev main_call0_call3_c_14 : Ref sig .tc := ⟨.hbm, 820, rfl⟩
abbrev main_call0_call3_v57 : Ref sig .tc := ⟨.hbm, 821, rfl⟩
abbrev main_call0_call3_v58 : Ref sig .tc := ⟨.hbm, 822, rfl⟩
abbrev main_call0_call3_v59 : Ref sig .tc := ⟨.hbm, 823, rfl⟩
abbrev main_call0_call3_v60 : Ref sig .tc := ⟨.hbm, 824, rfl⟩
abbrev main_call0_call3_v61 : Ref sig .tc := ⟨.hbm, 825, rfl⟩
abbrev main_call0_call3_c_15 : Ref sig .tc := ⟨.hbm, 826, rfl⟩
abbrev main_call0_call3_v62 : Ref sig .tc := ⟨.hbm, 827, rfl⟩
abbrev main_call0_call3_v63 : Ref sig .tc := ⟨.hbm, 828, rfl⟩
abbrev main_call0_call3_c_16 : Ref sig .tc := ⟨.hbm, 829, rfl⟩
abbrev main_call0_call3_v64 : Ref sig .tc := ⟨.hbm, 830, rfl⟩
abbrev main_call0_call3_v65 : Ref sig .tc := ⟨.hbm, 831, rfl⟩
abbrev main_call0_call3_v66 : Ref sig .tc := ⟨.hbm, 832, rfl⟩
abbrev main_call0_call3_v67 : Ref sig .tc := ⟨.hbm, 833, rfl⟩
abbrev main_call0_call3_v68 : Ref sig .tc := ⟨.hbm, 834, rfl⟩
abbrev main_call0_call3_v69 : Ref sig .tc := ⟨.hbm, 835, rfl⟩
abbrev main_call0_call3_v70 : Ref sig .tc := ⟨.hbm, 836, rfl⟩
abbrev main_call0_call3_v71 : Ref sig .tc := ⟨.hbm, 837, rfl⟩
abbrev main_call0_call3_c_17 : Ref sig .tc := ⟨.hbm, 838, rfl⟩
abbrev main_call0_call3_v72 : Ref sig .tc := ⟨.hbm, 839, rfl⟩
abbrev main_call0_call3_v73 : Ref sig .tc := ⟨.hbm, 840, rfl⟩
abbrev main_call0_call3_v74 : Ref sig .tc := ⟨.hbm, 841, rfl⟩
abbrev main_call0_call3_c_18 : Ref sig .tc := ⟨.hbm, 842, rfl⟩
abbrev main_call0_call3_v75 : Ref sig .tc := ⟨.hbm, 843, rfl⟩
abbrev main_call0_call3_v76 : Ref sig .tc := ⟨.hbm, 844, rfl⟩
abbrev main_call0_call3_c_19 : Ref sig .tc := ⟨.hbm, 845, rfl⟩
abbrev main_call0_call3_v77 : Ref sig .tc := ⟨.hbm, 846, rfl⟩
abbrev main_call0_call3_v78 : Ref sig .tc := ⟨.hbm, 847, rfl⟩
abbrev main_call0_call3_v79 : Ref sig .tc := ⟨.hbm, 848, rfl⟩
abbrev main_call0_call3_v80 : Ref sig .tc := ⟨.hbm, 849, rfl⟩
abbrev main_call0_call3_v81 : Ref sig .tc := ⟨.hbm, 850, rfl⟩
abbrev main_call0_call3_c_20 : Ref sig .tc := ⟨.hbm, 851, rfl⟩
abbrev main_call0_call3_v82 : Ref sig .tc := ⟨.hbm, 852, rfl⟩
abbrev main_call0_call3_v83 : Ref sig .tc := ⟨.hbm, 853, rfl⟩
abbrev main_call0_call3_c_21 : Ref sig .tc := ⟨.hbm, 854, rfl⟩
abbrev main_call0_call3_v84 : Ref sig .tc := ⟨.hbm, 855, rfl⟩
abbrev main_call0_call3_v85 : Ref sig .tc := ⟨.hbm, 856, rfl⟩
abbrev main_call0_call3_v86 : Ref sig .tc := ⟨.hbm, 857, rfl⟩
abbrev main_call0_call3_v87 : Ref sig .tc := ⟨.hbm, 858, rfl⟩
abbrev main_call0_call3_v88 : Ref sig .tc := ⟨.hbm, 859, rfl⟩
abbrev main_call0_call3_c_22 : Ref sig .tc := ⟨.hbm, 860, rfl⟩
abbrev main_call0_call3_v89 : Ref sig .tc := ⟨.hbm, 861, rfl⟩
abbrev main_call0_call3_v90 : Ref sig .tc := ⟨.hbm, 862, rfl⟩
abbrev main_call0_call3_c_23 : Ref sig .tc := ⟨.hbm, 863, rfl⟩
abbrev main_call0_call3_v91 : Ref sig .tc := ⟨.hbm, 864, rfl⟩
abbrev main_call0_call3_v92 : Ref sig .tc := ⟨.hbm, 865, rfl⟩
abbrev main_call0_call3_v93 : Ref sig .tc := ⟨.hbm, 866, rfl⟩
abbrev main_call0_call3_v94 : Ref sig .tc := ⟨.hbm, 867, rfl⟩
abbrev main_call0_call3_v95 : Ref sig .tc := ⟨.hbm, 868, rfl⟩
abbrev main_call0_call3_c_24 : Ref sig .tc := ⟨.hbm, 869, rfl⟩
abbrev main_call0_call3_v96 : Ref sig .tc := ⟨.hbm, 870, rfl⟩
abbrev main_call0_call3_v97 : Ref sig .tc := ⟨.hbm, 871, rfl⟩
abbrev main_call0_call3_c_25 : Ref sig .tc := ⟨.hbm, 872, rfl⟩
abbrev main_call0_call3_v98 : Ref sig .tc := ⟨.hbm, 873, rfl⟩
abbrev main_call0_call3_v99 : Ref sig .tc := ⟨.hbm, 874, rfl⟩
abbrev main_call0_call3_v100 : Ref sig .tc := ⟨.hbm, 875, rfl⟩
abbrev main_call0_call3_v101 : Ref sig .tc := ⟨.hbm, 876, rfl⟩
abbrev main_call0_call3_v102 : Ref sig .tc := ⟨.hbm, 877, rfl⟩
abbrev main_call0_call3_v103 : Ref sig .tc := ⟨.hbm, 878, rfl⟩
abbrev main_call0_call3_v104 : Ref sig .tc := ⟨.hbm, 879, rfl⟩
abbrev main_call0_call3_v105 : Ref sig .tc := ⟨.hbm, 880, rfl⟩
abbrev main_call0_call3_c_26 : Ref sig .tc := ⟨.hbm, 881, rfl⟩
abbrev main_call0_call3_v106 : Ref sig .tc := ⟨.hbm, 882, rfl⟩
abbrev main_call0_call3_v107 : Ref sig .tc := ⟨.hbm, 883, rfl⟩
abbrev main_call0_call3_v108 : Ref sig .tc := ⟨.hbm, 884, rfl⟩
abbrev main_call0_call3_c_27 : Ref sig .tc := ⟨.hbm, 885, rfl⟩
abbrev main_call0_call3_v109 : Ref sig .tc := ⟨.hbm, 886, rfl⟩
abbrev main_call0_call3_v110 : Ref sig .tc := ⟨.hbm, 887, rfl⟩
abbrev main_call0_call3_c_28 : Ref sig .tc := ⟨.hbm, 888, rfl⟩
abbrev main_call0_call3_v111 : Ref sig .tc := ⟨.hbm, 889, rfl⟩
abbrev main_call0_call3_v112 : Ref sig .tc := ⟨.hbm, 890, rfl⟩
abbrev main_call0_call3_v113 : Ref sig .tc := ⟨.hbm, 891, rfl⟩
abbrev main_call0_call3_v114 : Ref sig .tc := ⟨.hbm, 892, rfl⟩
abbrev main_call0_call3_v115 : Ref sig .tc := ⟨.hbm, 893, rfl⟩
abbrev main_call0_call3_c_29 : Ref sig .tc := ⟨.hbm, 894, rfl⟩
abbrev main_call0_call3_v116 : Ref sig .tc := ⟨.hbm, 895, rfl⟩
abbrev main_call0_call3_v117 : Ref sig .tc := ⟨.hbm, 896, rfl⟩
abbrev main_call0_call3_c_30 : Ref sig .tc := ⟨.hbm, 897, rfl⟩
abbrev main_call0_call3_v118 : Ref sig .tc := ⟨.hbm, 898, rfl⟩
abbrev main_call0_call3_v119 : Ref sig .tc := ⟨.hbm, 899, rfl⟩
abbrev main_call0_call3_v120 : Ref sig .tc := ⟨.hbm, 900, rfl⟩
abbrev main_call0_call3_v121 : Ref sig .tc := ⟨.hbm, 901, rfl⟩
abbrev main_call0_call3_v122 : Ref sig .tc := ⟨.hbm, 902, rfl⟩
abbrev main_call0_call3_c_31 : Ref sig .tc := ⟨.hbm, 903, rfl⟩
abbrev main_call0_call3_v123 : Ref sig .tc := ⟨.hbm, 904, rfl⟩
abbrev main_call0_call3_v124 : Ref sig .tc := ⟨.hbm, 905, rfl⟩
abbrev main_call0_call3_c_32 : Ref sig .tc := ⟨.hbm, 906, rfl⟩
abbrev main_call0_call3_v125 : Ref sig .tc := ⟨.hbm, 907, rfl⟩
abbrev main_call0_call3_v126 : Ref sig .tc := ⟨.hbm, 908, rfl⟩
abbrev main_call0_call3_v127 : Ref sig .tc := ⟨.hbm, 909, rfl⟩
abbrev main_call0_call3_v128 : Ref sig .tc := ⟨.hbm, 910, rfl⟩
abbrev main_call0_call3_v129 : Ref sig .tc := ⟨.hbm, 911, rfl⟩
abbrev main_call0_call3_c_33 : Ref sig .tc := ⟨.hbm, 912, rfl⟩
abbrev main_call0_call3_v130 : Ref sig .tc := ⟨.hbm, 913, rfl⟩
abbrev main_call0_call3_v131 : Ref sig .tc := ⟨.hbm, 914, rfl⟩
abbrev main_call0_call3_c_34 : Ref sig .tc := ⟨.hbm, 915, rfl⟩
abbrev main_call0_call3_v132 : Ref sig .tc := ⟨.hbm, 916, rfl⟩
abbrev main_call0_call3_v133 : Ref sig .tc := ⟨.hbm, 917, rfl⟩
abbrev main_call0_call3_v134 : Ref sig .tc := ⟨.hbm, 918, rfl⟩
abbrev main_call0_call3_v135 : Ref sig .tc := ⟨.hbm, 919, rfl⟩
abbrev main_call0_call3_v136 : Ref sig .tc := ⟨.hbm, 920, rfl⟩
abbrev main_call0_call3_v137 : Ref sig .tc := ⟨.hbm, 921, rfl⟩
abbrev main_call0_call3_v138 : Ref sig .tc := ⟨.hbm, 922, rfl⟩
abbrev main_call0_call3_v139 : Ref sig .tc := ⟨.hbm, 923, rfl⟩
abbrev main_call0_call3_c_35 : Ref sig .tc := ⟨.hbm, 924, rfl⟩
abbrev main_call0_call3_v140 : Ref sig .tc := ⟨.hbm, 925, rfl⟩
abbrev main_call0_call3_v141 : Ref sig .tc := ⟨.hbm, 926, rfl⟩
abbrev main_call0_call3_v142 : Ref sig .tc := ⟨.hbm, 927, rfl⟩
abbrev main_call0_call3_c_36 : Ref sig .tc := ⟨.hbm, 928, rfl⟩
abbrev main_call0_call3_v143 : Ref sig .tc := ⟨.hbm, 929, rfl⟩
abbrev main_call0_call3_v144 : Ref sig .tc := ⟨.hbm, 930, rfl⟩
abbrev main_call0_call3_c_37 : Ref sig .tc := ⟨.hbm, 931, rfl⟩
abbrev main_call0_call3_v145 : Ref sig .tc := ⟨.hbm, 932, rfl⟩
abbrev main_call0_call3_v146 : Ref sig .tc := ⟨.hbm, 933, rfl⟩
abbrev main_call0_call3_v147 : Ref sig .tc := ⟨.hbm, 934, rfl⟩
abbrev main_call0_call3_v148 : Ref sig .tc := ⟨.hbm, 935, rfl⟩
abbrev main_call0_call3_v149 : Ref sig .tc := ⟨.hbm, 936, rfl⟩
abbrev main_call0_call3_c_38 : Ref sig .tc := ⟨.hbm, 937, rfl⟩
abbrev main_call0_call3_v150 : Ref sig .tc := ⟨.hbm, 938, rfl⟩
abbrev main_call0_call3_v151 : Ref sig .tc := ⟨.hbm, 939, rfl⟩
abbrev main_call0_call3_c_39 : Ref sig .tc := ⟨.hbm, 940, rfl⟩
abbrev main_call0_call3_v152 : Ref sig .tc := ⟨.hbm, 941, rfl⟩
abbrev main_call0_call3_v153 : Ref sig .tc := ⟨.hbm, 942, rfl⟩
abbrev main_call0_call3_v154 : Ref sig .tc := ⟨.hbm, 943, rfl⟩
abbrev main_call0_call3_v155 : Ref sig .tc := ⟨.hbm, 944, rfl⟩
abbrev main_call0_call3_v156 : Ref sig .tc := ⟨.hbm, 945, rfl⟩
abbrev main_call0_call3_c_40 : Ref sig .tc := ⟨.hbm, 946, rfl⟩
abbrev main_call0_call3_v157 : Ref sig .tc := ⟨.hbm, 947, rfl⟩
abbrev main_call0_call3_v158 : Ref sig .tc := ⟨.hbm, 948, rfl⟩
abbrev main_call0_call3_c_41 : Ref sig .tc := ⟨.hbm, 949, rfl⟩
abbrev main_call0_call3_v159 : Ref sig .tc := ⟨.hbm, 950, rfl⟩
abbrev main_call0_call3_v160 : Ref sig .tc := ⟨.hbm, 951, rfl⟩
abbrev main_call0_call3_v161 : Ref sig .tc := ⟨.hbm, 952, rfl⟩
abbrev main_call0_call3_v162 : Ref sig .tc := ⟨.hbm, 953, rfl⟩
abbrev main_call0_call3_v163 : Ref sig .tc := ⟨.hbm, 954, rfl⟩
abbrev main_call0_call3_c_42 : Ref sig .tc := ⟨.hbm, 955, rfl⟩
abbrev main_call0_call3_v164 : Ref sig .tc := ⟨.hbm, 956, rfl⟩
abbrev main_call0_call3_v165 : Ref sig .tc := ⟨.hbm, 957, rfl⟩
abbrev main_call0_call3_c_43 : Ref sig .tc := ⟨.hbm, 958, rfl⟩
abbrev main_call0_call3_v166 : Ref sig .tc := ⟨.hbm, 959, rfl⟩
abbrev main_call0_call3_v167 : Ref sig .tc := ⟨.hbm, 960, rfl⟩
abbrev main_call0_call3_v168 : Ref sig .tc := ⟨.hbm, 961, rfl⟩
abbrev main_call0_call3_v169 : Ref sig .tc := ⟨.hbm, 962, rfl⟩
abbrev main_call0_call3_v170 : Ref sig .tc := ⟨.hbm, 963, rfl⟩
abbrev main_call0_v35_0 : Ref sig .tc := ⟨.hbm, 964, rfl⟩
abbrev main_call0_call3_v172 : Ref sig .tc := ⟨.hbm, 965, rfl⟩
abbrev main_call0_call3_v173 : Ref sig .tc := ⟨.hbm, 966, rfl⟩
abbrev main_call0_call3_c_44 : Ref sig .tc := ⟨.hbm, 967, rfl⟩
abbrev main_call0_call3_v174 : Ref sig .tc := ⟨.hbm, 968, rfl⟩
abbrev main_call0_v35_1 : Ref sig .tc := ⟨.hbm, 969, rfl⟩
abbrev main_call0_v36 : Ref sig .tc := ⟨.hbm, 970, rfl⟩
abbrev main_call0_v37_0 : Ref sig .tc := ⟨.hbm, 971, rfl⟩
abbrev main_v9 : Ref sig .tc := ⟨.hbm, 972, rfl⟩
abbrev main_v10 : Ref sig .tc := ⟨.hbm, 973, rfl⟩
abbrev main_c_2 : Ref sig .tc := ⟨.hbm, 974, rfl⟩
abbrev main_v11 : Ref sig .tc := ⟨.hbm, 975, rfl⟩
abbrev main_v12 : Ref sig .tc := ⟨.hbm, 976, rfl⟩
abbrev main_c_3 : Ref sig .tc := ⟨.hbm, 977, rfl⟩
abbrev main_v13 : Ref sig .tc := ⟨.hbm, 978, rfl⟩
abbrev main_v14 : Ref sig .tc := ⟨.hbm, 979, rfl⟩
abbrev main_v15 : Ref sig .tc := ⟨.hbm, 980, rfl⟩
abbrev main_v16 : Ref sig .tc := ⟨.hbm, 981, rfl⟩
abbrev main_v17 : Ref sig .tc := ⟨.hbm, 982, rfl⟩
abbrev main_v18 : Ref sig .tc := ⟨.hbm, 983, rfl⟩
abbrev main_cst : Ref sig .tc := ⟨.hbm, 984, rfl⟩
abbrev main_v19 : Ref sig .tc := ⟨.hbm, 985, rfl⟩
abbrev main_v20 : Ref sig .tc := ⟨.hbm, 986, rfl⟩
abbrev main_v21 : Ref sig .tc := ⟨.hbm, 987, rfl⟩
abbrev main_v22_0 : Ref sig .tc := ⟨.hbm, 988, rfl⟩
abbrev main_v22_1 : Ref sig .tc := ⟨.hbm, 989, rfl⟩
abbrev main_v22_2 : Ref sig .tc := ⟨.hbm, 990, rfl⟩
abbrev main_v23 : Ref sig .tc := ⟨.hbm, 991, rfl⟩
abbrev main_v24 : Ref sig .tc := ⟨.hbm, 992, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c8192_i32 : BitVec 32 := 8192#32
  let v0 : BitVec 32 := Scalar.muli arg1 c8192_i32
  let v14 : Index := Scalar.indexCast v0
  let c0_5 : Index := 0#32
  ![v14.toNat, 0]
def k0_off2 (i : grid0.Coords) : Fin 2 → Nat :=
  let arg1 : BitVec 32 := BitVec.ofNat 32 (i 1).val
  let c8192_i32 : BitVec 32 := 8192#32
  let v0 : BitVec 32 := Scalar.muli arg1 c8192_i32
  let v25 : Index := Scalar.indexCast v0
  let c0_6 : Index := 0#32
  ![v25.toNat, 0]
def k0_off3 (i : grid0.Coords) : Fin 2 → Nat :=
  let arg1 : BitVec 32 := BitVec.ofNat 32 (i 1).val
  let c8192_i32 : BitVec 32 := 8192#32
  let v0 : BitVec 32 := Scalar.muli arg1 c8192_i32
  let v29 : Index := Scalar.indexCast v0
  let c128 : Index := 128#32
  ![v29.toNat, 128]
def k0_off4 (i : grid0.Coords) : Fin 2 → Nat :=
  let arg1 : BitVec 32 := BitVec.ofNat 32 (i 1).val
  let c8192_i32 : BitVec 32 := 8192#32
  let v0 : BitVec 32 := Scalar.muli arg1 c8192_i32
  let v33 : Index := Scalar.indexCast v0
  let c256 : Index := 256#32
  ![v33.toNat, 256]
def k0_off5 (i : grid0.Coords) : Fin 2 → Nat :=
  let arg1 : BitVec 32 := BitVec.ofNat 32 (i 1).val
  let c8192_i32 : BitVec 32 := 8192#32
  let v0 : BitVec 32 := Scalar.muli arg1 c8192_i32
  let v43 : Index := Scalar.indexCast v0
  let c384 : Index := 384#32
  ![v43.toNat, 384]
def k0_cond3 (i : grid0.Coords) : BitVec 1 :=
  let arg0 : BitVec 32 := BitVec.ofNat 32 (i 0).val
  let c10_i32 : BitVec 32 := 10#32
  let v5 : BitVec 1 := Scalar.cmpi .slt arg0 c10_i32
  let v6 : BitVec 32 := Scalar.extui v5
  let c0_i32_1 : BitVec 32 := 0#32
  let v7 : BitVec 1 := Scalar.cmpi .ne v6 c0_i32_1
  v7

def k0_off6 (i : grid0.Coords) (c0_i32_10 : BitVec 32) : Fin 2 → Nat :=
  let arg1 : BitVec 32 := BitVec.ofNat 32 (i 1).val
  let c8192_i32_9 : BitVec 32 := 8192#32
  let v17 : BitVec 32 := Scalar.muli arg1 c8192_i32_9
  let v18 : BitVec 32 := Scalar.addi v17 c0_i32_10
  let v33 : Index := Scalar.indexCast v18
  let c0_22 : Index := 0#32
  ![v33.toNat, 0]
def k0_off7 (i : grid0.Coords) (c0_i32_15 : BitVec 32) : Fin 2 → Nat :=
  let c0_29 : Index := 0#32
  let arg1 : BitVec 32 := BitVec.ofNat 32 (i 1).val
  let c8192_i32_14 : BitVec 32 := 8192#32
  let v25 : BitVec 32 := Scalar.muli arg1 c8192_i32_14
  let v26 : BitVec 32 := Scalar.addi v25 c0_i32_15
  let v45 : Index := Scalar.indexCast v26
  ![0, v45.toNat]
def k0_off8 (i : grid0.Coords) (c0_i32_10 : BitVec 32) : Fin 2 → Nat :=
  let arg1 : BitVec 32 := BitVec.ofNat 32 (i 1).val
  let c8192_i32_9 : BitVec 32 := 8192#32
  let v17 : BitVec 32 := Scalar.muli arg1 c8192_i32_9
  let v18 : BitVec 32 := Scalar.addi v17 c0_i32_10
  let v67 : Index := Scalar.indexCast v18
  let c0_33 : Index := 0#32
  ![v67.toNat, 0]
def k0_cond6 (i : grid0.Coords) : BitVec 1 :=
  let arg0 : BitVec 32 := BitVec.ofNat 32 (i 0).val
  let c10_i32_2 : BitVec 32 := 10#32
  let v8 : BitVec 1 := Scalar.cmpi .eq arg0 c10_i32_2
  let v9 : BitVec 32 := Scalar.extui v8
  let c0_i32_3 : BitVec 32 := 0#32
  let v10 : BitVec 1 := Scalar.cmpi .ne v9 c0_i32_3
  v10

def k0_off9 (i : grid0.Coords) : Fin 2 → Nat :=
  let c0 : Index := 0#32
  let arg1 : BitVec 32 := BitVec.ofNat 32 (i 1).val
  let c8192_i32_4 : BitVec 32 := 8192#32
  let v11 : BitVec 32 := Scalar.muli arg1 c8192_i32_4
  let v12 : Index := Scalar.indexCast v11
  ![0, v12.toNat]
def k0_off10 (i : grid0.Coords) : Fin 2 → Nat :=
  let arg1 : BitVec 32 := BitVec.ofNat 32 (i 1).val
  let c8192_i32 : BitVec 32 := 8192#32
  let v0 : BitVec 32 := Scalar.muli arg1 c8192_i32
  let v33 : Index := Scalar.indexCast v0
  let c0_9 : Index := 0#32
  ![v33.toNat, 0]
def k0_cond7 (i : grid0.Coords) : BitVec 1 :=
  let arg1 : BitVec 32 := BitVec.ofNat 32 (i 1).val
  let c0_i32_10 : BitVec 32 := 0#32
  let v35 : BitVec 1 := Scalar.cmpi .eq arg1 c0_i32_10
  let v36 : BitVec 32 := Scalar.extui v35
  let c0_i32_11 : BitVec 32 := 0#32
  let v37 : BitVec 1 := Scalar.cmpi .ne v36 c0_i32_11
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S300x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S300x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x1024x128 : Shape := ⟨3, ![8, 1024, 128]⟩
abbrev S8192x128 : Shape := ⟨2, ![8192, 128]⟩
abbrev S_ : Shape := ⟨0, ![]⟩
abbrev S1 : Shape := ⟨1, ![1]⟩
abbrev S2 : Shape := ⟨1, ![2]⟩
abbrev S8192 : Shape := ⟨1, ![8192]⟩
abbrev S2x1 : Shape := ⟨2, ![2, 1]⟩
abbrev S2x2 : Shape := ⟨2, ![2, 2]⟩
abbrev S1x2 : Shape := ⟨2, ![1, 2]⟩
abbrev S300 : Shape := ⟨1, ![300]⟩
abbrev S300x1 : Shape := ⟨2, ![300, 1]⟩
abbrev S300x128 : Shape := ⟨2, ![300, 128]⟩
abbrev S8192x1 : Shape := ⟨2, ![8192, 1]⟩
abbrev S1x300 : Shape := ⟨2, ![1, 300]⟩
abbrev S128x300 : Shape := ⟨2, ![128, 300]⟩
abbrev S8192x300 : Shape := ⟨2, ![8192, 300]⟩
abbrev S8x1024 : Shape := ⟨2, ![8, 1024]⟩
abbrev S8x1024x1 : Shape := ⟨3, ![8, 1024, 1]⟩
abbrev S1x1x1 : Shape := ⟨3, ![1, 1, 1]⟩

abbrev nBuf : Space → Nat
  | .hbm => 1087
  | .vmem => 0
  | .smem => 0
  | _ => 0

abbrev hbmTy0_0 (i : Nat) : BufTy := match i % 128 with
  | 0 => ⟨S8x1024x128, .f32⟩
  | 1 => ⟨S8192x128, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S8192, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x1024x128, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S8x1024x128, .f32⟩

abbrev hbmTy0_2 (i : Nat) : BufTy := match i % 128 with
  | 0 => ⟨S_, .i32⟩
  | 1 => ⟨S1, .i32⟩
  | 2 => ⟨S_, .i32⟩
  | 3 => ⟨S8192, .i64⟩
  | 4 => ⟨S_, .i64⟩
  | 5 => ⟨S8192, .i64⟩
  | 6 => ⟨S8192, .i64⟩
  | 7 => ⟨S_, .i64⟩
  | 8 => ⟨S8192, .i64⟩
  | 9 => ⟨S8192, .i64⟩
  | 10 => ⟨S8192, .i32⟩
  | 11 => ⟨S8192, .i32⟩
  | 12 => ⟨S_, .i32⟩
  | 13 => ⟨S_, .i32⟩
  | 14 => ⟨S_, .i32⟩
  | 15 => ⟨S8192, .i32⟩
  | 16 => ⟨S8192, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S8x1024x128, .f32⟩

abbrev hbmTy0_3 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .i32⟩
  | 108 => ⟨S8192, .i32⟩
  | 109 => ⟨S1, .i32⟩
  | 110 => ⟨S_, .i32⟩
  | 111 => ⟨S1, .i32⟩
  | 112 => ⟨S_, .i32⟩
  | 113 => ⟨S2, .i64⟩
  | 114 => ⟨S_, .i64⟩
  | 115 => ⟨S2, .i64⟩
  | 116 => ⟨S2, .i64⟩
  | 117 => ⟨S_, .i64⟩
  | 118 => ⟨S2, .i64⟩
  | 119 => ⟨S2, .i64⟩
  | 120 => ⟨S2, .i32⟩
  | 121 => ⟨S2, .i32⟩
  | 122 => ⟨S_, .i32⟩
  | 123 => ⟨S_, .i32⟩
  | 124 => ⟨S_, .i32⟩
  | 125 => ⟨S2, .i32⟩
  | 126 => ⟨S2, .i32⟩
  | 127 => ⟨S2, .i32⟩
  | _ => ⟨S8x1024x128, .f32⟩

abbrev hbmTy0_4 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S8x1024x128, .f32⟩

abbrev hbmTy0_5 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2x1, .i32⟩
  | 89 => ⟨S2x1, .i32⟩
  | 90 => ⟨S2x2, .i32⟩
  | 91 => ⟨S1x2, .i32⟩
  | 92 => ⟨S2, .i32⟩
  | 93 => ⟨S1x2, .i32⟩
  | 94 => ⟨S2, .i32⟩
  | 95 => ⟨S1, .i32⟩
  | 96 => ⟨S_, .i32⟩
  | 97 => ⟨S1, .i32⟩
  | 98 => ⟨S_, .i32⟩
  | 99 => ⟨S8192, .i64⟩
  | 100 => ⟨S_, .i64⟩
  | 101 => ⟨S8192, .i64⟩
  | 102 => ⟨S8192, .i64⟩
  | 103 => ⟨S_, .i64⟩
  | 104 => ⟨S8192, .i64⟩
  | 105 => ⟨S8192, .i64⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .i32⟩
  | 124 => ⟨S8192, .i32⟩
  | 125 => ⟨S_, .i32⟩
  | 126 => ⟨S8192, .i32⟩
  | 127 => ⟨S8192, .i32⟩
  | _ => ⟨S8x1024x128, .f32⟩

abbrev hbmTy0_6 (i : Nat) : BufTy := match i % 128 with
  | 0 => ⟨S_, .i32⟩
  | 1 => ⟨S8192, .i32⟩
  | 2 => ⟨S8192, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192, .i32⟩
  | 81 => ⟨S8192, .i32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192, .i32⟩
  | 108 => ⟨S8192, .i32⟩
  | 109 => ⟨S8192, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .i32⟩
  | 124 => ⟨S8192, .i32⟩
  | 125 => ⟨S8192, .i32⟩
  | 126 => ⟨S_, .i32⟩
  | 127 => ⟨S8192, .i32⟩
  | _ => ⟨S8x1024x128, .f32⟩

abbrev hbmTy0_7 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .i32⟩
  | 75 => ⟨S8192, .i32⟩
  | 76 => ⟨S8192, .i32⟩
  | 77 => ⟨S300, .i32⟩
  | 78 => ⟨S_, .i32⟩
  | 79 => ⟨S300, .i32⟩
  | 80 => ⟨S300, .i1⟩
  | 81 => ⟨S_, .i32⟩
  | 82 => ⟨S300, .i32⟩
  | 83 => ⟨S300, .i32⟩
  | 84 => ⟨S300, .i32⟩
  | 85 => ⟨S300x1, .i32⟩
  | 86 => ⟨S300x128, .f32⟩
  | 87 => ⟨S_, .i32⟩
  | 88 => ⟨S8192, .i32⟩
  | 89 => ⟨S_, .i32⟩
  | 90 => ⟨S_, .i32⟩
  | 91 => ⟨S8192x128, .f32⟩
  | 92 => ⟨S_, .i32⟩
  | 93 => ⟨S_, .i32⟩
  | 94 => ⟨S300x128, .f32⟩
  | 95 => ⟨S8192, .i32⟩
  | 96 => ⟨S_, .i32⟩
  | 97 => ⟨S_, .i1⟩
  | 98 => ⟨S_, .i32⟩
  | 99 => ⟨S_, .i32⟩
  | 100 => ⟨S8192x128, .f32⟩
  | 101 => ⟨S_, .f32⟩
  | 102 => ⟨S8192, .f32⟩
  | 103 => ⟨S8192x1, .f32⟩
  | 104 => ⟨S300x128, .f32⟩
  | 105 => ⟨S_, .f32⟩
  | 106 => ⟨S300, .f32⟩
  | 107 => ⟨S1x300, .f32⟩
  | 108 => ⟨S128x300, .f32⟩
  | 109 => ⟨S8192x300, .f32⟩
  | 110 => ⟨S_, .f32⟩
  | 111 => ⟨S8192x300, .f32⟩
  | 112 => ⟨S8192x300, .f32⟩
  | 113 => ⟨S8192x300, .f32⟩
  | 114 => ⟨S8192x300, .f32⟩
  | 115 => ⟨S8192x300, .f32⟩
  | 116 => ⟨S8192x300, .f32⟩
  | 117 => ⟨S8192x300, .f32⟩
  | 118 => ⟨S8192x300, .i32⟩
  | 119 => ⟨S_, .f32⟩
  | 120 => ⟨S_, .i32⟩
  | 121 => ⟨S8192, .f32⟩
  | 122 => ⟨S8192, .i32⟩
  | 123 => ⟨S_, .i32⟩
  | 124 => ⟨S300, .i32⟩
  | 125 => ⟨S_, .i32⟩
  | 126 => ⟨S_, .i32⟩
  | 127 => ⟨S8192, .i32⟩
  | _ => ⟨S8x1024x128, .f32⟩

abbrev hbmTy0_8 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S_, .i32⟩
  | 10 => ⟨S8192, .i32⟩
  | 11 => ⟨S300, .i32⟩
  | 12 => ⟨S_, .i32⟩
  | 13 => ⟨S300, .i32⟩
  | 14 => ⟨S300, .i1⟩
  | 15 => ⟨S_, .i32⟩
  | 16 => ⟨S_, .i32⟩
  | 17 => ⟨S300, .i32⟩
  | 18 => ⟨S300, .i32⟩
  | 19 => ⟨S_, .f32⟩
  | 20 => ⟨S300x128, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S300x128, .f32⟩
  | 30 => ⟨S300x1, .i32⟩
  | 31 => ⟨S300x1, .f32⟩
  | 32 => ⟨S300x128, .f32⟩
  | 33 => ⟨S300x128, .f32⟩
  | 34 => ⟨S300x1, .i1⟩
  | 35 => ⟨S300x128, .i1⟩
  | 36 => ⟨S300x128, .f32⟩
  | 37 => ⟨S_, .i32⟩
  | 38 => ⟨S_, .i32⟩
  | 39 => ⟨S8x1024, .i32⟩
  | 40 => ⟨S_, .i32⟩
  | 41 => ⟨S8x1024, .i32⟩
  | 42 => ⟨S8x1024, .i1⟩
  | 43 => ⟨S_, .i32⟩
  | 44 => ⟨S8x1024, .i32⟩
  | 45 => ⟨S8x1024, .i32⟩
  | 46 => ⟨S8x1024, .i32⟩
  | 47 => ⟨S8x1024x1, .i32⟩
  | 48 => ⟨S1, .i32⟩
  | 49 => ⟨S_, .i32⟩
  | 50 => ⟨S8x1024x1, .i32⟩
  | 51 => ⟨S8x1024x1, .i1⟩
  | 52 => ⟨S1x1x1, .i32⟩
  | 53 => ⟨S8x1024x1, .i32⟩
  | 54 => ⟨S8x1024x1, .i1⟩
  | 55 => ⟨S8x1024x1, .i1⟩
  | 56 => ⟨S_, .i1⟩
  | 57 => ⟨S8x1024, .i1⟩
  | 58 => ⟨S8x1024x128, .f32⟩
  | 59 => ⟨S8x1024x128, .i1⟩
  | 60 => ⟨S_, .f32⟩
  | 61 => ⟨S8x1024x128, .f32⟩
  | 62 => ⟨S8x1024x128, .f32⟩
  | _ => ⟨S8x1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8x1024x128, .f32⟩

abbrev bufTy : (tb : Table) → Fin (tcTables nBuf tb) → BufTy
  | .hbm, ⟨i, _⟩ => hbmTy i
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_call0_v18_1 : Ref sig .tc := ⟨.hbm, 492, rfl⟩
abbrev main_call0_call2_v0 : Ref sig .tc := ⟨.hbm, 493, rfl⟩
abbrev main_call0_call2_v1 : Ref sig .tc := ⟨.hbm, 494, rfl⟩
abbrev main_call0_call2_v2 : Ref sig .tc := ⟨.hbm, 495, rfl⟩
abbrev main_call0_call2_v3 : Ref sig .tc := ⟨.hbm, 496, rfl⟩
abbrev main_call0_call2_v4 : Ref sig .tc := ⟨.hbm, 497, rfl⟩
abbrev main_call0_call2_c : Ref sig .tc := ⟨.hbm, 498, rfl⟩
abbrev main_call0_call2_v5 : Ref sig .tc := ⟨.hbm, 499, rfl⟩
abbrev main_call0_call2_v6 : Ref sig .tc := ⟨.hbm, 500, rfl⟩
abbrev main_call0_call2_c_0 : Ref sig .tc := ⟨.hbm, 501, rfl⟩
abbrev main_call0_call2_v7 : Ref sig .tc := ⟨.hbm, 502, rfl⟩
abbrev main_call0_call2_v8 : Ref sig .tc := ⟨.hbm, 503, rfl⟩
abbrev main_call0_call2_v9 : Ref sig .tc := ⟨.hbm, 504, rfl⟩
abbrev main_call0_call2_v10 : Ref sig .tc := ⟨.hbm, 505, rfl⟩
abbrev main_call0_call2_call0_v0 : Ref sig .tc := ⟨.hbm, 506, rfl⟩
abbrev main_call0_call2_call0_c : Ref sig .tc := ⟨.hbm, 507, rfl⟩
abbrev main_call0_call2_call0_v1 : Ref sig .tc := ⟨.hbm, 508, rfl⟩
abbrev main_call0_call2_call0_v2 : Ref sig .tc := ⟨.hbm, 509, rfl⟩
abbrev main_call0_call2_call0_v3 : Ref sig .tc := ⟨.hbm, 510, rfl⟩
abbrev main_call0_call2_call0_v4 : Ref sig .tc := ⟨.hbm, 511, rfl⟩
abbrev main_call0_call2_call0_v5 : Ref sig .tc := ⟨.hbm, 512, rfl⟩
abbrev main_call0_call2_call0_v6 : Ref sig .tc := ⟨.hbm, 513, rfl⟩
abbrev main_call0_call2_call0_c_0 : Ref sig .tc := ⟨.hbm, 514, rfl⟩
abbrev main_call0_call2_call0_v7 : Ref sig .tc := ⟨.hbm, 515, rfl⟩
abbrev main_call0_call2_call0_v8 : Ref sig .tc := ⟨.hbm, 516, rfl⟩
abbrev main_call0_call2_call0_c_1 : Ref sig .tc := ⟨.hbm, 517, rfl⟩
abbrev main_call0_call2_call0_v9 : Ref sig .tc := ⟨.hbm, 518, rfl⟩
abbrev main_call0_call2_call0_v10 : Ref sig .tc := ⟨.hbm, 519, rfl⟩
abbrev main_call0_call2_call0_v11 : Ref sig .tc := ⟨.hbm, 520, rfl⟩
abbrev main_call0_call2_call0_v12 : Ref sig .tc := ⟨.hbm, 521, rfl⟩
abbrev main_call0_call2_call0_v13 : Ref sig .tc := ⟨.hbm, 522, rfl⟩
abbrev main_call0_call2_call0_c_2 : Ref sig .tc := ⟨.hbm, 523, rfl⟩
abbrev main_call0_call2_call0_v14 : Ref sig .tc := ⟨.hbm, 524, rfl⟩
abbrev main_call0_call2_call0_v15 : Ref sig .tc := ⟨.hbm, 525, rfl⟩
abbrev main_call0_call2_call0_c_3 : Ref sig .tc := ⟨.hbm, 526, rfl⟩
abbrev main_call0_call2_call0_v16 : Ref sig .tc := ⟨.hbm, 527, rfl⟩
abbrev main_call0_call2_call0_v17 : Ref sig .tc := ⟨.hbm, 528, rfl⟩
abbrev main_call0_call2_call0_v18 : Ref sig .tc := ⟨.hbm, 529, rfl⟩
abbrev main_call0_call2_call0_v19 : Ref sig .tc := ⟨.hbm, 530, rfl⟩
abbrev main_call0_call2_call0_v20 : Ref sig .tc := ⟨.hbm, 531, rfl⟩
abbrev main_call0_call2_call0_c_4 : Ref sig .tc := ⟨.hbm, 532, rfl⟩
abbrev main_call0_call2_call0_v21 : Ref sig .tc := ⟨.hbm, 533, rfl⟩
abbrev main_call0_call2_call0_v22 : Ref sig .tc := ⟨.hbm, 534, rfl⟩
abbrev main_call0_call2_call0_c_5 : Ref sig .tc := ⟨.hbm, 535, rfl⟩
abbrev main_call0_call2_call0_v23 : Ref sig .tc := ⟨.hbm, 536, rfl⟩
abbrev main_call0_call2_call0_v24 : Ref sig .tc := ⟨.hbm, 537, rfl⟩
abbrev main_call0_call2_call0_v25 : Ref sig .tc := ⟨.hbm, 538, rfl⟩
abbrev main_call0_call2_call0_v26 : Ref sig .tc := ⟨.hbm, 539, rfl⟩
abbrev main_call0_call2_call0_v27 : Ref sig .tc := ⟨.hbm, 540, rfl⟩
abbrev main_call0_call2_call0_c_6 : Ref sig .tc := ⟨.hbm, 541, rfl⟩
abbrev main_call0_call2_call0_v28 : Ref sig .tc := ⟨.hbm, 542, rfl⟩
abbrev main_call0_call2_call0_v29 : Ref sig .tc := ⟨.hbm, 543, rfl⟩
abbrev main_call0_call2_call0_c_7 : Ref sig .tc := ⟨.hbm, 544, rfl⟩
abbrev main_call0_call2_call0_v30 : Ref sig .tc := ⟨.hbm, 545, rfl⟩
abbrev main_call0_call2_call0_v31 : Ref sig .tc := ⟨.hbm, 546, rfl⟩
abbrev main_call0_call2_call0_v32 : Ref sig .tc := ⟨.hbm, 547, rfl⟩
abbrev main_call0_call2_call0_v33 : Ref sig .tc := ⟨.hbm, 548, rfl⟩
abbrev main_call0_call2_call0_v34 : Ref sig .tc := ⟨.hbm, 549, rfl⟩
abbrev main_call0_call2_call0_v35 : Ref sig .tc := ⟨.hbm, 550, rfl⟩
abbrev main_call0_call2_call0_v36 : Ref sig .tc := ⟨.hbm, 551, rfl⟩
abbrev main_call0_call2_call0_v37 : Ref sig .tc := ⟨.hbm, 552, rfl⟩
abbrev main_call0_call2_call0_c_8 : Ref sig .tc := ⟨.hbm, 553, rfl⟩
abbrev main_call0_call2_call0_v38 : Ref sig .tc := ⟨.hbm, 554, rfl⟩
abbrev main_call0_call2_call0_v39 : Ref sig .tc := ⟨.hbm, 555, rfl⟩
abbrev main_call0_call2_call0_v40 : Ref sig .tc := ⟨.hbm, 556, rfl⟩
abbrev main_call0_call2_call0_c_9 : Ref sig .tc := ⟨.hbm, 557, rfl⟩
abbrev main_call0_call2_call0_v41 : Ref sig .tc := ⟨.hbm, 558, rfl⟩
abbrev main_call0_call2_call0_v42 : Ref sig .tc := ⟨.hbm, 559, rfl⟩
abbrev main_call0_call2_call0_c_10 : Ref sig .tc := ⟨.hbm, 560, rfl⟩
abbrev main_call0_call2_call0_v43 : Ref sig .tc := ⟨.hbm, 561, rfl⟩
abbrev main_call0_call2_call0_v44 : Ref sig .tc := ⟨.hbm, 562, rfl⟩
abbrev main_call0_call2_call0_v45 : Ref sig .tc := ⟨.hbm, 563, rfl⟩
abbrev main_call0_call2_call0_v46 : Ref sig .tc := ⟨.hbm, 564, rfl⟩
abbrev main_call0_call2_call0_v47 : Ref sig .tc := ⟨.hbm, 565, rfl⟩
abbrev main_call0_call2_call0_c_11 : Ref sig .tc := ⟨.hbm, 566, rfl⟩
abbrev main_call0_call2_call0_v48 : Ref sig .tc := ⟨.hbm, 567, rfl⟩
abbrev main_call0_call2_call0_v49 : Ref sig .tc := ⟨.hbm, 568, rfl⟩
abbrev main_call0_call2_call0_c_12 : Ref sig .tc := ⟨.hbm, 569, rfl⟩
abbrev main_call0_call2_call0_v50 : Ref sig .tc := ⟨.hbm, 570, rfl⟩
abbrev main_call0_call2_call0_v51 : Ref sig .tc := ⟨.hbm, 571, rfl⟩
abbrev main_call0_call2_call0_v52 : Ref sig .tc := ⟨.hbm, 572, rfl⟩
abbrev main_call0_call2_call0_v53 : Ref sig .tc := ⟨.hbm, 573, rfl⟩
abbrev main_call0_call2_call0_v54 : Ref sig .tc := ⟨.hbm, 574, rfl⟩
abbrev main_call0_call2_call0_c_13 : Ref sig .tc := ⟨.hbm, 575, rfl⟩
abbrev main_call0_call2_call0_v55 : Ref sig .tc := ⟨.hbm, 576, rfl⟩
abbrev main_call0_call2_call0_v56 : Ref sig .tc := ⟨.hbm, 577, rfl⟩
abbrev main_call0_call2_call0_c_14 : Ref sig .tc := ⟨.hbm, 578, rfl⟩
abbrev main_call0_call2_call0_v57 : Ref sig .tc := ⟨.hbm, 579, rfl⟩
abbrev main_call0_call2_call0_v58 : Ref sig .tc := ⟨.hbm, 580, rfl⟩
abbrev main_call0_call2_call0_v59 : Ref sig .tc := ⟨.hbm, 581, rfl⟩
abbrev main_call0_call2_call0_v60 : Ref sig .tc := ⟨.hbm, 582, rfl⟩
abbrev main_call0_call2_call0_v61 : Ref sig .tc := ⟨.hbm, 583, rfl⟩
abbrev main_call0_call2_call0_c_15 : Ref sig .tc := ⟨.hbm, 584, rfl⟩
abbrev main_call0_call2_call0_v62 : Ref sig .tc := ⟨.hbm, 585, rfl⟩
abbrev main_call0_call2_call0_v63 : Ref sig .tc := ⟨.hbm, 586, rfl⟩
abbrev main_call0_call2_call0_c_16 : Ref sig .tc := ⟨.hbm, 587, rfl⟩
abbrev main_call0_call2_call0_v64 : Ref sig .tc := ⟨.hbm, 588, rfl⟩
abbrev main_call0_call2_call0_v65 : Ref sig .tc := ⟨.hbm, 589, rfl⟩
abbrev main_call0_call2_call0_v66 : Ref sig .tc := ⟨.hbm, 590, rfl⟩
abbrev main_call0_call2_call0_v67 : Ref sig .tc := ⟨.hbm, 591, rfl⟩
abbrev main_call0_call2_call0_v68 : Ref sig .tc := ⟨.hbm, 592, rfl⟩
abbrev main_call0_call2_call0_v69 : Ref sig .tc := ⟨.hbm, 593, rfl⟩
abbrev main_call0_call2_call0_v70 : Ref sig .tc := ⟨.hbm, 594, rfl⟩
abbrev main_call0_call2_call0_v71 : Ref sig .tc := ⟨.hbm, 595, rfl⟩
abbrev main_call0_call2_call0_c_17 : Ref sig .tc := ⟨.hbm, 596, rfl⟩
abbrev main_call0_call2_call0_v72 : Ref sig .tc := ⟨.hbm, 597, rfl⟩
abbrev main_call0_call2_call0_v73 : Ref sig .tc := ⟨.hbm, 598, rfl⟩
abbrev main_call0_call2_call0_v74 : Ref sig .tc := ⟨.hbm, 599, rfl⟩
abbrev main_call0_call2_call0_c_18 : Ref sig .tc := ⟨.hbm, 600, rfl⟩
abbrev main_call0_call2_call0_v75 : Ref sig .tc := ⟨.hbm, 601, rfl⟩
abbrev main_call0_call2_call0_v76 : Ref sig .tc := ⟨.hbm, 602, rfl⟩
abbrev main_call0_call2_call0_c_19 : Ref sig .tc := ⟨.hbm, 603, rfl⟩
abbrev main_call0_call2_call0_v77 : Ref sig .tc := ⟨.hbm, 604, rfl⟩
abbrev main_call0_call2_call0_v78 : Ref sig .tc := ⟨.hbm, 605, rfl⟩
abbrev main_call0_call2_call0_v79 : Ref sig .tc := ⟨.hbm, 606, rfl⟩
abbrev main_call0_call2_call0_v80 : Ref sig .tc := ⟨.hbm, 607, rfl⟩
abbrev main_call0_call2_call0_v81 : Ref sig .tc := ⟨.hbm, 608, rfl⟩
abbrev main_call0_call2_call0_c_20 : Ref sig .tc := ⟨.hbm, 609, rfl⟩
abbrev main_call0_call2_call0_v82 : Ref sig .tc := ⟨.hbm, 610, rfl⟩
abbrev main_call0_call2_call0_v83 : Ref sig .tc := ⟨.hbm, 611, rfl⟩
abbrev main_call0_call2_call0_c_21 : Ref sig .tc := ⟨.hbm, 612, rfl⟩
abbrev main_call0_call2_call0_v84 : Ref sig .tc := ⟨.hbm, 613, rfl⟩
abbrev main_call0_call2_call0_v85 : Ref sig .tc := ⟨.hbm, 614, rfl⟩
abbrev main_call0_call2_call0_v86 : Ref sig .tc := ⟨.hbm, 615, rfl⟩
abbrev main_call0_call2_call0_v87 : Ref sig .tc := ⟨.hbm, 616, rfl⟩
abbrev main_call0_call2_call0_v88 : Ref sig .tc := ⟨.hbm, 617, rfl⟩
abbrev main_call0_call2_call0_c_22 : Ref sig .tc := ⟨.hbm, 618, rfl⟩
abbrev main_call0_call2_call0_v89 : Ref sig .tc := ⟨.hbm, 619, rfl⟩
abbrev main_call0_call2_call0_v90 : Ref sig .tc := ⟨.hbm, 620, rfl⟩
abbrev main_call0_call2_call0_c_23 : Ref sig .tc := ⟨.hbm, 621, rfl⟩
abbrev main_call0_call2_call0_v91 : Ref sig .tc := ⟨.hbm, 622, rfl⟩
abbrev main_call0_call2_call0_v92 : Ref sig .tc := ⟨.hbm, 623, rfl⟩
abbrev main_call0_call2_call0_v93 : Ref sig .tc := ⟨.hbm, 624, rfl⟩
abbrev main_call0_call2_call0_v94 : Ref sig .tc := ⟨.hbm, 625, rfl⟩
abbrev main_call0_call2_call0_v95 : Ref sig .tc := ⟨.hbm, 626, rfl⟩
abbrev main_call0_call2_call0_c_24 : Ref sig .tc := ⟨.hbm, 627, rfl⟩
abbrev main_call0_call2_call0_v96 : Ref sig .tc := ⟨.hbm, 628, rfl⟩
abbrev main_call0_call2_call0_v97 : Ref sig .tc := ⟨.hbm, 629, rfl⟩
abbrev main_call0_call2_call0_c_25 : Ref sig .tc := ⟨.hbm, 630, rfl⟩
abbrev main_call0_call2_call0_v98 : Ref sig .tc := ⟨.hbm, 631, rfl⟩
abbrev main_call0_call2_call0_v99 : Ref sig .tc := ⟨.hbm, 632, rfl⟩
abbrev main_call0_call2_call0_v100 : Ref sig .tc := ⟨.hbm, 633, rfl⟩
abbrev main_call0_call2_call0_v101 : Ref sig .tc := ⟨.hbm, 634, rfl⟩
abbrev main_call0_call2_call0_v102 : Ref sig .tc := ⟨.hbm, 635, rfl⟩
abbrev main_call0_call2_call0_v103 : Ref sig .tc := ⟨.hbm, 636, rfl⟩
abbrev main_call0_call2_call0_v104 : Ref sig .tc := ⟨.hbm, 637, rfl⟩
abbrev main_call0_call2_call0_v105 : Ref sig .tc := ⟨.hbm, 638, rfl⟩
abbrev main_call0_call2_call0_c_26 : Ref sig .tc := ⟨.hbm, 639, rfl⟩
abbrev main_call0_call2_call0_v106 : Ref sig .tc := ⟨.hbm, 640, rfl⟩
abbrev main_call0_call2_call0_v107 : Ref sig .tc := ⟨.hbm, 641, rfl⟩
abbrev main_call0_call2_call0_v108 : Ref sig .tc := ⟨.hbm, 642, rfl⟩
abbrev main_call0_call2_call0_c_27 : Ref sig .tc := ⟨.hbm, 643, rfl⟩
abbrev main_call0_call2_call0_v109 : Ref sig .tc := ⟨.hbm, 644, rfl⟩
abbrev main_call0_call2_call0_v110 : Ref sig .tc := ⟨.hbm, 645, rfl⟩
abbrev main_call0_call2_call0_c_28 : Ref sig .tc := ⟨.hbm, 646, rfl⟩
abbrev main_call0_call2_call0_v111 : Ref sig .tc := ⟨.hbm, 647, rfl⟩
abbrev main_call0_call2_call0_v112 : Ref sig .tc := ⟨.hbm, 648, rfl⟩
abbrev main_call0_call2_call0_v113 : Ref sig .tc := ⟨.hbm, 649, rfl⟩
abbrev main_call0_call2_call0_v114 : Ref sig .tc := ⟨.hbm, 650, rfl⟩
abbrev main_call0_call2_call0_v115 : Ref sig .tc := ⟨.hbm, 651, rfl⟩
abbrev main_call0_call2_call0_c_29 : Ref sig .tc := ⟨.hbm, 652, rfl⟩
abbrev main_call0_call2_call0_v116 : Ref sig .tc := ⟨.hbm, 653, rfl⟩
abbrev main_call0_call2_call0_v117 : Ref sig .tc := ⟨.hbm, 654, rfl⟩
abbrev main_call0_call2_call0_c_30 : Ref sig .tc := ⟨.hbm, 655, rfl⟩
abbrev main_call0_call2_call0_v118 : Ref sig .tc := ⟨.hbm, 656, rfl⟩
abbrev main_call0_call2_call0_v119 : Ref sig .tc := ⟨.hbm, 657, rfl⟩
abbrev main_call0_call2_call0_v120 : Ref sig .tc := ⟨.hbm, 658, rfl⟩
abbrev main_call0_call2_call0_v121 : Ref sig .tc := ⟨.hbm, 659, rfl⟩
abbrev main_call0_call2_call0_v122 : Ref sig .tc := ⟨.hbm, 660, rfl⟩
abbrev main_call0_call2_call0_c_31 : Ref sig .tc := ⟨.hbm, 661, rfl⟩
abbrev main_call0_call2_call0_v123 : Ref sig .tc := ⟨.hbm, 662, rfl⟩
abbrev main_call0_call2_call0_v124 : Ref sig .tc := ⟨.hbm, 663, rfl⟩
abbrev main_call0_call2_call0_c_32 : Ref sig .tc := ⟨.hbm, 664, rfl⟩
abbrev main_call0_call2_call0_v125 : Ref sig .tc := ⟨.hbm, 665, rfl⟩
abbrev main_call0_call2_call0_v126 : Ref sig .tc := ⟨.hbm, 666, rfl⟩
abbrev main_call0_call2_call0_v127 : Ref sig .tc := ⟨.hbm, 667, rfl⟩
abbrev main_call0_call2_call0_v128 : Ref sig .tc := ⟨.hbm, 668, rfl⟩
abbrev main_call0_call2_call0_v129 : Ref sig .tc := ⟨.hbm, 669, rfl⟩
abbrev main_call0_call2_call0_c_33 : Ref sig .tc := ⟨.hbm, 670, rfl⟩
abbrev main_call0_call2_call0_v130 : Ref sig .tc := ⟨.hbm, 671, rfl⟩
abbrev main_call0_call2_call0_v131 : Ref sig .tc := ⟨.hbm, 672, rfl⟩
abbrev main_call0_call2_call0_c_34 : Ref sig .tc := ⟨.hbm, 673, rfl⟩
abbrev main_call0_call2_call0_v132 : Ref sig .tc := ⟨.hbm, 674, rfl⟩
abbrev main_call0_call2_call0_v133 : Ref sig .tc := ⟨.hbm, 675, rfl⟩
abbrev main_call0_call2_call0_v134 : Ref sig .tc := ⟨.hbm, 676, rfl⟩
abbrev main_call0_call2_call0_v135 : Ref sig .tc := ⟨.hbm, 677, rfl⟩
abbrev main_call0_call2_call0_v136 : Ref sig .tc := ⟨.hbm, 678, rfl⟩
abbrev main_call0_call2_call0_v137 : Ref sig .tc := ⟨.hbm, 679, rfl⟩
abbrev main_call0_call2_call0_v138 : Ref sig .tc := ⟨.hbm, 680, rfl⟩
abbrev main_call0_call2_call0_v139 : Ref sig .tc := ⟨.hbm, 681, rfl⟩
abbrev main_call0_call2_call0_c_35 : Ref sig .tc := ⟨.hbm, 682, rfl⟩
abbrev main_call0_call2_call0_v140 : Ref sig .tc := ⟨.hbm, 683, rfl⟩
abbrev main_call0_call2_call0_v141 : Ref sig .tc := ⟨.hbm, 684, rfl⟩
abbrev main_call0_call2_call0_v142 : Ref sig .tc := ⟨.hbm, 685, rfl⟩
abbrev main_call0_call2_call0_c_36 : Ref sig .tc := ⟨.hbm, 686, rfl⟩
abbrev main_call0_call2_call0_v143 : Ref sig .tc := ⟨.hbm, 687, rfl⟩
abbrev main_call0_call2_call0_v144 : Ref sig .tc := ⟨.hbm, 688, rfl⟩
abbrev main_call0_call2_call0_c_37 : Ref sig .tc := ⟨.hbm, 689, rfl⟩
abbrev main_call0_call2_call0_v145 : Ref sig .tc := ⟨.hbm, 690, rfl⟩
abbrev main_call0_call2_call0_v146 : Ref sig .tc := ⟨.hbm, 691, rfl⟩
abbrev main_call0_call2_call0_v147 : Ref sig .tc := ⟨.hbm, 692, rfl⟩
abbrev main_call0_call2_call0_v148 : Ref sig .tc := ⟨.hbm, 693, rfl⟩
abbrev main_call0_call2_call0_v149 : Ref sig .tc := ⟨.hbm, 694, rfl⟩
abbrev main_call0_call2_call0_c_38 : Ref sig .tc := ⟨.hbm, 695, rfl⟩
abbrev main_call0_call2_call0_v150 : Ref sig .tc := ⟨.hbm, 696, rfl⟩
abbrev main_call0_call2_call0_v151 : Ref sig .tc := ⟨.hbm, 697, rfl⟩
abbrev main_call0_call2_call0_c_39 : Ref sig .tc := ⟨.hbm, 698, rfl⟩
abbrev main_call0_call2_call0_v152 : Ref sig .tc := ⟨.hbm, 699, rfl⟩
abbrev main_call0_call2_call0_v153 : Ref sig .tc := ⟨.hbm, 700, rfl⟩
abbrev main_call0_call2_call0_v154 : Ref sig .tc := ⟨.hbm, 701, rfl⟩
abbrev main_call0_call2_call0_v155 : Ref sig .tc := ⟨.hbm, 702, rfl⟩
abbrev main_call0_call2_call0_v156 : Ref sig .tc := ⟨.hbm, 703, rfl⟩
abbrev main_call0_call2_call0_c_40 : Ref sig .tc := ⟨.hbm, 704, rfl⟩
abbrev main_call0_call2_call0_v157 : Ref sig .tc := ⟨.hbm, 705, rfl⟩
abbrev main_call0_call2_call0_v158 : Ref sig .tc := ⟨.hbm, 706, rfl⟩
abbrev main_call0_call2_call0_c_41 : Ref sig .tc := ⟨.hbm, 707, rfl⟩
abbrev main_call0_call2_call0_v159 : Ref sig .tc := ⟨.hbm, 708, rfl⟩
abbrev main_call0_call2_call0_v160 : Ref sig .tc := ⟨.hbm, 709, rfl⟩
abbrev main_call0_call2_call0_v161 : Ref sig .tc := ⟨.hbm, 710, rfl⟩
abbrev main_call0_call2_call0_v162 : Ref sig .tc := ⟨.hbm, 711, rfl⟩
abbrev main_call0_call2_call0_v163 : Ref sig .tc := ⟨.hbm, 712, rfl⟩
abbrev main_call0_call2_call0_c_42 : Ref sig .tc := ⟨.hbm, 713, rfl⟩
abbrev main_call0_call2_call0_v164 : Ref sig .tc := ⟨.hbm, 714, rfl⟩
abbrev main_call0_call2_call0_v165 : Ref sig .tc := ⟨.hbm, 715, rfl⟩
abbrev main_call0_call2_call0_c_43 : Ref sig .tc := ⟨.hbm, 716, rfl⟩
abbrev main_call0_call2_call0_v166 : Ref sig .tc := ⟨.hbm, 717, rfl⟩
abbrev main_call0_call2_call0_v167 : Ref sig .tc := ⟨.hbm, 718, rfl⟩
abbrev main_call0_call2_call0_v168 : Ref sig .tc := ⟨.hbm, 719, rfl⟩
abbrev main_call0_call2_call0_v169 : Ref sig .tc := ⟨.hbm, 720, rfl⟩
abbrev main_call0_call2_call0_v170 : Ref sig .tc := ⟨.hbm, 721, rfl⟩
abbrev main_call0_call2_v11_0 : Ref sig .tc := ⟨.hbm, 722, rfl⟩
abbrev main_call0_call2_call0_v172 : Ref sig .tc := ⟨.hbm, 723, rfl⟩
abbrev main_call0_call2_call0_v173 : Ref sig .tc := ⟨.hbm, 724, rfl⟩
abbrev main_call0_call2_call0_c_44 : Ref sig .tc := ⟨.hbm, 725, rfl⟩
abbrev main_call0_call2_call0_v174 : Ref sig .tc := ⟨.hbm, 726, rfl⟩
abbrev main_call0_call2_v11_1 : Ref sig .tc := ⟨.hbm, 727, rfl⟩
abbrev main_call0_call2_v12 : Ref sig .tc := ⟨.hbm, 728, rfl⟩
abbrev main_call0_call2_v13 : Ref sig .tc := ⟨.hbm, 729, rfl⟩
abbrev main_call0_v19 : Ref sig .tc := ⟨.hbm, 730, rfl⟩
abbrev main_call0_v20 : Ref sig .tc := ⟨.hbm, 731, rfl⟩
abbrev main_call0_v21 : Ref sig .tc := ⟨.hbm, 732, rfl⟩
abbrev main_call0_v22 : Ref sig .tc := ⟨.hbm, 733, rfl⟩
abbrev main_call0_v23 : Ref sig .tc := ⟨.hbm, 734, rfl⟩
abbrev main_call0_v24 : Ref sig .tc := ⟨.hbm, 735, rfl⟩
abbrev main_call0_v25 : Ref sig .tc := ⟨.hbm, 736, rfl⟩
abbrev main_call0_v26 : Ref sig .tc := ⟨.hbm, 737, rfl⟩
abbrev main_call0_v27 : Ref sig .tc := ⟨.hbm, 738, rfl⟩
abbrev main_call0_v28 : Ref sig .tc := ⟨.hbm, 739, rfl⟩
abbrev main_call0_c_1 : Ref sig .tc := ⟨.hbm, 740, rfl⟩
abbrev main_call0_v29 : Ref sig .tc := ⟨.hbm, 741, rfl⟩
abbrev main_call0_v30 : Ref sig .tc := ⟨.hbm, 742, rfl⟩
abbrev main_call0_c_2 : Ref sig .tc := ⟨.hbm, 743, rfl⟩
abbrev main_call0_v31 : Ref sig .tc := ⟨.hbm, 744, rfl⟩
abbrev main_call0_v32 : Ref sig .tc := ⟨.hbm, 745, rfl⟩
abbrev main_call0_v33 : Ref sig .tc := ⟨.hbm, 746, rfl⟩
abbrev main_call0_v34 : Ref sig .tc := ⟨.hbm, 747, rfl⟩
abbrev main_call0_call3_v0 : Ref sig .tc := ⟨.hbm, 748, rfl⟩
abbrev main_call0_call3_c : Ref sig .tc := ⟨.hbm, 749, rfl⟩
abbrev main_call0_call3_v1 : Ref sig .tc := ⟨.hbm, 750, rfl⟩
abbrev main_call0_call3_v2 : Ref sig .tc := ⟨.hbm, 751, rfl⟩
abbrev main_call0_call3_v3 : Ref sig .tc := ⟨.hbm, 752, rfl⟩
abbrev main_call0_call3_v4 : Ref sig .tc := ⟨.hbm, 753, rfl⟩
abbrev main_call0_call3_v5 : Ref sig .tc := ⟨.hbm, 754, rfl⟩
abbrev main_call0_call3_v6 : Ref sig .tc := ⟨.hbm, 755, rfl⟩
abbrev main_call0_call3_c_0 : Ref sig .tc := ⟨.hbm, 756, rfl⟩
abbrev main_call0_call3_v7 : Ref sig .tc := ⟨.hbm, 757, rfl⟩
abbrev main_call0_call3_v8 : Ref sig .tc := ⟨.hbm, 758, rfl⟩
abbrev main_call0_call3_c_1 : Ref sig .tc := ⟨.hbm, 759, rfl⟩
abbrev main_call0_call3_v9 : Ref sig .tc := ⟨.hbm, 760, rfl⟩
abbrev main_call0_call3_v10 : Ref sig .tc := ⟨.hbm, 761, rfl⟩
abbrev main_call0_call3_v11 : Ref sig .tc := ⟨.hbm, 762, rfl⟩
abbrev main_call0_call3_v12 : Ref sig .tc := ⟨.hbm, 763, rfl⟩
abbrev main_call0_call3_v13 : Ref sig .tc := ⟨.hbm, 764, rfl⟩
abbrev main_call0_call3_c_2 : Ref sig .tc := ⟨.hbm, 765, rfl⟩
abbrev main_call0_call3_v14 : Ref sig .tc := ⟨.hbm, 766, rfl⟩
abbrev main_call0_call3_v15 : Ref sig .tc := ⟨.hbm, 767, rfl⟩
abbrev main_call0_call3_c_3 : Ref sig .tc := ⟨.hbm, 768, rfl⟩
abbrev main_call0_call3_v16 : Ref sig .tc := ⟨.hbm, 769, rfl⟩
abbrev main_call0_call3_v17 : Ref sig .tc := ⟨.hbm, 770, rfl⟩
abbrev main_call0_call3_v18 : Ref sig .tc := ⟨.hbm, 771, rfl⟩
abbrev main_call0_call3_v19 : Ref sig .tc := ⟨.hbm, 772, rfl⟩
abbrev main_call0_call3_v20 : Ref sig .tc := ⟨.hbm, 773, rfl⟩
abbrev main_call0_call3_c_4 : Ref sig .tc := ⟨.hbm, 774, rfl⟩
abbrev main_call0_call3_v21 : Ref sig .tc := ⟨.hbm, 775, rfl⟩
abbrev main_call0_call3_v22 : Ref sig .tc := ⟨.hbm, 776, rfl⟩
abbrev main_call0_call3_c_5 : Ref sig .tc := ⟨.hbm, 777, rfl⟩
abbrev main_call0_call3_v23 : Ref sig .tc := ⟨.hbm, 778, rfl⟩
abbrev main_call0_call3_v24 : Ref sig .tc := ⟨.hbm, 779, rfl⟩
abbrev main_call0_call3_v25 : Ref sig .tc := ⟨.hbm, 780, rfl⟩
abbrev main_call0_call3_v26 : Ref sig .tc := ⟨.hbm, 781, rfl⟩
abbrev main_call0_call3_v27 : Ref sig .tc := ⟨.hbm, 782, rfl⟩
abbrev main_call0_call3_c_6 : Ref sig .tc := ⟨.hbm, 783, rfl⟩
abbrev main_call0_call3_v28 : Ref sig .tc := ⟨.hbm, 784, rfl⟩
abbrev main_call0_call3_v29 : Ref sig .tc := ⟨.hbm, 785, rfl⟩
abbrev main_call0_call3_c_7 : Ref sig .tc := ⟨.hbm, 786, rfl⟩
abbrev main_call0_call3_v30 : Ref sig .tc := ⟨.hbm, 787, rfl⟩
abbrev main_call0_call3_v31 : Ref sig .tc := ⟨.hbm, 788, rfl⟩
abbrev main_call0_call3_v32 : Ref sig .tc := ⟨.hbm, 789, rfl⟩
abbrev main_call0_call3_v33 : Ref sig .tc := ⟨.hbm, 790, rfl⟩
abbrev main_call0_call3_v34 : Ref sig .tc := ⟨.hbm, 791, rfl⟩
abbrev main_call0_call3_v35 : Ref sig .tc := ⟨.hbm, 792, rfl⟩
abbrev main_call0_call3_v36 : Ref sig .tc := ⟨.hbm, 793, rfl⟩
abbrev main_call0_call3_v37 : Ref sig .tc := ⟨.hbm, 794, rfl⟩
abbrev main_call0_call3_c_8 : Ref sig .tc := ⟨.hbm, 795, rfl⟩
abbrev main_call0_call3_v38 : Ref sig .tc := ⟨.hbm, 796, rfl⟩
abbrev main_call0_call3_v39 : Ref sig .tc := ⟨.hbm, 797, rfl⟩
abbrev main_call0_call3_v40 : Ref sig .tc := ⟨.hbm, 798, rfl⟩
abbrev main_call0_call3_c_9 : Ref sig .tc := ⟨.hbm, 799, rfl⟩
abbrev main_call0_call3_v41 : Ref sig .tc := ⟨.hbm, 800, rfl⟩
abbrev main_call0_call3_v42 : Ref sig .tc := ⟨.hbm, 801, rfl⟩
abbrev main_call0_call3_c_10 : Ref sig .tc := ⟨.hbm, 802, rfl⟩
abbrev main_call0_call3_v43 : Ref sig .tc := ⟨.hbm, 803, rfl⟩
abbrev main_call0_call3_v44 : Ref sig .tc := ⟨.hbm, 804, rfl⟩
abbrev main_call0_call3_v45 : Ref sig .tc := ⟨.hbm, 805, rfl⟩
abbrev main_call0_call3_v46 : Ref sig .tc := ⟨.hbm, 806, rfl⟩
abbrev main_call0_call3_v47 : Ref sig .tc := ⟨.hbm, 807, rfl⟩
abbrev main_call0_call3_c_11 : Ref sig .tc := ⟨.hbm, 808, rfl⟩
abbrev main_call0_call3_v48 : Ref sig .tc := ⟨.hbm, 809, rfl⟩
abbrev main_call0_call3_v49 : Ref sig .tc := ⟨.hbm, 810, rfl⟩
abbrev main_call0_call3_c_12 : Ref sig .tc := ⟨.hbm, 811, rfl⟩
abbrev main_call0_call3_v50 : Ref sig .tc := ⟨.hbm, 812, rfl⟩
abbrev main_call0_call3_v51 : Ref sig .tc := ⟨.hbm, 813, rfl⟩
abbrev main_call0_call3_v52 : Ref sig .tc := ⟨.hbm, 814, rfl⟩
abbrev main_call0_call3_v53 : Ref sig .tc := ⟨.hbm, 815, rfl⟩
abbrev main_call0_call3_v54 : Ref sig .tc := ⟨.hbm, 816, rfl⟩
abbrev main_call0_call3_c_13 : Ref sig .tc := ⟨.hbm, 817, rfl⟩
abbrev main_call0_call3_v55 : Ref sig .tc := ⟨.hbm, 818, rfl⟩
abbrev main_call0_call3_v56 : Ref sig .tc := ⟨.hbm, 819, rfl⟩
abbrev main_call0_call3_c_14 : Ref sig .tc := ⟨.hbm, 820, rfl⟩
abbrev main_call0_call3_v57 : Ref sig .tc := ⟨.hbm, 821, rfl⟩
abbrev main_call0_call3_v58 : Ref sig .tc := ⟨.hbm, 822, rfl⟩
abbrev main_call0_call3_v59 : Ref sig .tc := ⟨.hbm, 823, rfl⟩
abbrev main_call0_call3_v60 : Ref sig .tc := ⟨.hbm, 824, rfl⟩
abbrev main_call0_call3_v61 : Ref sig .tc := ⟨.hbm, 825, rfl⟩
abbrev main_call0_call3_c_15 : Ref sig .tc := ⟨.hbm, 826, rfl⟩
abbrev main_call0_call3_v62 : Ref sig .tc := ⟨.hbm, 827, rfl⟩
abbrev main_call0_call3_v63 : Ref sig .tc := ⟨.hbm, 828, rfl⟩
abbrev main_call0_call3_c_16 : Ref sig .tc := ⟨.hbm, 829, rfl⟩
abbrev main_call0_call3_v64 : Ref sig .tc := ⟨.hbm, 830, rfl⟩
abbrev main_call0_call3_v65 : Ref sig .tc := ⟨.hbm, 831, rfl⟩
abbrev main_call0_call3_v66 : Ref sig .tc := ⟨.hbm, 832, rfl⟩
abbrev main_call0_call3_v67 : Ref sig .tc := ⟨.hbm, 833, rfl⟩
abbrev main_call0_call3_v68 : Ref sig .tc := ⟨.hbm, 834, rfl⟩
abbrev main_call0_call3_v69 : Ref sig .tc := ⟨.hbm, 835, rfl⟩
abbrev main_call0_call3_v70 : Ref sig .tc := ⟨.hbm, 836, rfl⟩
abbrev main_call0_call3_v71 : Ref sig .tc := ⟨.hbm, 837, rfl⟩
abbrev main_call0_call3_c_17 : Ref sig .tc := ⟨.hbm, 838, rfl⟩
abbrev main_call0_call3_v72 : Ref sig .tc := ⟨.hbm, 839, rfl⟩
abbrev main_call0_call3_v73 : Ref sig .tc := ⟨.hbm, 840, rfl⟩
abbrev main_call0_call3_v74 : Ref sig .tc := ⟨.hbm, 841, rfl⟩
abbrev main_call0_call3_c_18 : Ref sig .tc := ⟨.hbm, 842, rfl⟩
abbrev main_call0_call3_v75 : Ref sig .tc := ⟨.hbm, 843, rfl⟩
abbrev main_call0_call3_v76 : Ref sig .tc := ⟨.hbm, 844, rfl⟩
abbrev main_call0_call3_c_19 : Ref sig .tc := ⟨.hbm, 845, rfl⟩
abbrev main_call0_call3_v77 : Ref sig .tc := ⟨.hbm, 846, rfl⟩
abbrev main_call0_call3_v78 : Ref sig .tc := ⟨.hbm, 847, rfl⟩
abbrev main_call0_call3_v79 : Ref sig .tc := ⟨.hbm, 848, rfl⟩
abbrev main_call0_call3_v80 : Ref sig .tc := ⟨.hbm, 849, rfl⟩
abbrev main_call0_call3_v81 : Ref sig .tc := ⟨.hbm, 850, rfl⟩
abbrev main_call0_call3_c_20 : Ref sig .tc := ⟨.hbm, 851, rfl⟩
abbrev main_call0_call3_v82 : Ref sig .tc := ⟨.hbm, 852, rfl⟩
abbrev main_call0_call3_v83 : Ref sig .tc := ⟨.hbm, 853, rfl⟩
abbrev main_call0_call3_c_21 : Ref sig .tc := ⟨.hbm, 854, rfl⟩
abbrev main_call0_call3_v84 : Ref sig .tc := ⟨.hbm, 855, rfl⟩
abbrev main_call0_call3_v85 : Ref sig .tc := ⟨.hbm, 856, rfl⟩
abbrev main_call0_call3_v86 : Ref sig .tc := ⟨.hbm, 857, rfl⟩
abbrev main_call0_call3_v87 : Ref sig .tc := ⟨.hbm, 858, rfl⟩
abbrev main_call0_call3_v88 : Ref sig .tc := ⟨.hbm, 859, rfl⟩
abbrev main_call0_call3_c_22 : Ref sig .tc := ⟨.hbm, 860, rfl⟩
abbrev main_call0_call3_v89 : Ref sig .tc := ⟨.hbm, 861, rfl⟩
abbrev main_call0_call3_v90 : Ref sig .tc := ⟨.hbm, 862, rfl⟩
abbrev main_call0_call3_c_23 : Ref sig .tc := ⟨.hbm, 863, rfl⟩
abbrev main_call0_call3_v91 : Ref sig .tc := ⟨.hbm, 864, rfl⟩
abbrev main_call0_call3_v92 : Ref sig .tc := ⟨.hbm, 865, rfl⟩
abbrev main_call0_call3_v93 : Ref sig .tc := ⟨.hbm, 866, rfl⟩
abbrev main_call0_call3_v94 : Ref sig .tc := ⟨.hbm, 867, rfl⟩
abbrev main_call0_call3_v95 : Ref sig .tc := ⟨.hbm, 868, rfl⟩
abbrev main_call0_call3_c_24 : Ref sig .tc := ⟨.hbm, 869, rfl⟩
abbrev main_call0_call3_v96 : Ref sig .tc := ⟨.hbm, 870, rfl⟩
abbrev main_call0_call3_v97 : Ref sig .tc := ⟨.hbm, 871, rfl⟩
abbrev main_call0_call3_c_25 : Ref sig .tc := ⟨.hbm, 872, rfl⟩
abbrev main_call0_call3_v98 : Ref sig .tc := ⟨.hbm, 873, rfl⟩
abbrev main_call0_call3_v99 : Ref sig .tc := ⟨.hbm, 874, rfl⟩
abbrev main_call0_call3_v100 : Ref sig .tc := ⟨.hbm, 875, rfl⟩
abbrev main_call0_call3_v101 : Ref sig .tc := ⟨.hbm, 876, rfl⟩
abbrev main_call0_call3_v102 : Ref sig .tc := ⟨.hbm, 877, rfl⟩
abbrev main_call0_call3_v103 : Ref sig .tc := ⟨.hbm, 878, rfl⟩
abbrev main_call0_call3_v104 : Ref sig .tc := ⟨.hbm, 879, rfl⟩
abbrev main_call0_call3_v105 : Ref sig .tc := ⟨.hbm, 880, rfl⟩
abbrev main_call0_call3_c_26 : Ref sig .tc := ⟨.hbm, 881, rfl⟩
abbrev main_call0_call3_v106 : Ref sig .tc := ⟨.hbm, 882, rfl⟩
abbrev main_call0_call3_v107 : Ref sig .tc := ⟨.hbm, 883, rfl⟩
abbrev main_call0_call3_v108 : Ref sig .tc := ⟨.hbm, 884, rfl⟩
abbrev main_call0_call3_c_27 : Ref sig .tc := ⟨.hbm, 885, rfl⟩
abbrev main_call0_call3_v109 : Ref sig .tc := ⟨.hbm, 886, rfl⟩
abbrev main_call0_call3_v110 : Ref sig .tc := ⟨.hbm, 887, rfl⟩
abbrev main_call0_call3_c_28 : Ref sig .tc := ⟨.hbm, 888, rfl⟩
abbrev main_call0_call3_v111 : Ref sig .tc := ⟨.hbm, 889, rfl⟩
abbrev main_call0_call3_v112 : Ref sig .tc := ⟨.hbm, 890, rfl⟩
abbrev main_call0_call3_v113 : Ref sig .tc := ⟨.hbm, 891, rfl⟩
abbrev main_call0_call3_v114 : Ref sig .tc := ⟨.hbm, 892, rfl⟩
abbrev main_call0_call3_v115 : Ref sig .tc := ⟨.hbm, 893, rfl⟩
abbrev main_call0_call3_c_29 : Ref sig .tc := ⟨.hbm, 894, rfl⟩
abbrev main_call0_call3_v116 : Ref sig .tc := ⟨.hbm, 895, rfl⟩
abbrev main_call0_call3_v117 : Ref sig .tc := ⟨.hbm, 896, rfl⟩
abbrev main_call0_call3_c_30 : Ref sig .tc := ⟨.hbm, 897, rfl⟩
abbrev main_call0_call3_v118 : Ref sig .tc := ⟨.hbm, 898, rfl⟩
abbrev main_call0_call3_v119 : Ref sig .tc := ⟨.hbm, 899, rfl⟩
abbrev main_call0_call3_v120 : Ref sig .tc := ⟨.hbm, 900, rfl⟩
abbrev main_call0_call3_v121 : Ref sig .tc := ⟨.hbm, 901, rfl⟩
abbrev main_call0_call3_v122 : Ref sig .tc := ⟨.hbm, 902, rfl⟩
abbrev main_call0_call3_c_31 : Ref sig .tc := ⟨.hbm, 903, rfl⟩
abbrev main_call0_call3_v123 : Ref sig .tc := ⟨.hbm, 904, rfl⟩
abbrev main_call0_call3_v124 : Ref sig .tc := ⟨.hbm, 905, rfl⟩
abbrev main_call0_call3_c_32 : Ref sig .tc := ⟨.hbm, 906, rfl⟩
abbrev main_call0_call3_v125 : Ref sig .tc := ⟨.hbm, 907, rfl⟩
abbrev main_call0_call3_v126 : Ref sig .tc := ⟨.hbm, 908, rfl⟩
abbrev main_call0_call3_v127 : Ref sig .tc := ⟨.hbm, 909, rfl⟩
abbrev main_call0_call3_v128 : Ref sig .tc := ⟨.hbm, 910, rfl⟩
abbrev main_call0_call3_v129 : Ref sig .tc := ⟨.hbm, 911, rfl⟩
abbrev main_call0_call3_c_33 : Ref sig .tc := ⟨.hbm, 912, rfl⟩
abbrev main_call0_call3_v130 : Ref sig .tc := ⟨.hbm, 913, rfl⟩
abbrev main_call0_call3_v131 : Ref sig .tc := ⟨.hbm, 914, rfl⟩
abbrev main_call0_call3_c_34 : Ref sig .tc := ⟨.hbm, 915, rfl⟩
abbrev main_call0_call3_v132 : Ref sig .tc := ⟨.hbm, 916, rfl⟩
abbrev main_call0_call3_v133 : Ref sig .tc := ⟨.hbm, 917, rfl⟩
abbrev main_call0_call3_v134 : Ref sig .tc := ⟨.hbm, 918, rfl⟩
abbrev main_call0_call3_v135 : Ref sig .tc := ⟨.hbm, 919, rfl⟩
abbrev main_call0_call3_v136 : Ref sig .tc := ⟨.hbm, 920, rfl⟩
abbrev main_call0_call3_v137 : Ref sig .tc := ⟨.hbm, 921, rfl⟩
abbrev main_call0_call3_v138 : Ref sig .tc := ⟨.hbm, 922, rfl⟩
abbrev main_call0_call3_v139 : Ref sig .tc := ⟨.hbm, 923, rfl⟩
abbrev main_call0_call3_c_35 : Ref sig .tc := ⟨.hbm, 924, rfl⟩
abbrev main_call0_call3_v140 : Ref sig .tc := ⟨.hbm, 925, rfl⟩
abbrev main_call0_call3_v141 : Ref sig .tc := ⟨.hbm, 926, rfl⟩
abbrev main_call0_call3_v142 : Ref sig .tc := ⟨.hbm, 927, rfl⟩
abbrev main_call0_call3_c_36 : Ref sig .tc := ⟨.hbm, 928, rfl⟩
abbrev main_call0_call3_v143 : Ref sig .tc := ⟨.hbm, 929, rfl⟩
abbrev main_call0_call3_v144 : Ref sig .tc := ⟨.hbm, 930, rfl⟩
abbrev main_call0_call3_c_37 : Ref sig .tc := ⟨.hbm, 931, rfl⟩
abbrev main_call0_call3_v145 : Ref sig .tc := ⟨.hbm, 932, rfl⟩
abbrev main_call0_call3_v146 : Ref sig .tc := ⟨.hbm, 933, rfl⟩
abbrev main_call0_call3_v147 : Ref sig .tc := ⟨.hbm, 934, rfl⟩
abbrev main_call0_call3_v148 : Ref sig .tc := ⟨.hbm, 935, rfl⟩
abbrev main_call0_call3_v149 : Ref sig .tc := ⟨.hbm, 936, rfl⟩
abbrev main_call0_call3_c_38 : Ref sig .tc := ⟨.hbm, 937, rfl⟩
abbrev main_call0_call3_v150 : Ref sig .tc := ⟨.hbm, 938, rfl⟩
abbrev main_call0_call3_v151 : Ref sig .tc := ⟨.hbm, 939, rfl⟩
abbrev main_call0_call3_c_39 : Ref sig .tc := ⟨.hbm, 940, rfl⟩
abbrev main_call0_call3_v152 : Ref sig .tc := ⟨.hbm, 941, rfl⟩
abbrev main_call0_call3_v153 : Ref sig .tc := ⟨.hbm, 942, rfl⟩
abbrev main_call0_call3_v154 : Ref sig .tc := ⟨.hbm, 943, rfl⟩
abbrev main_call0_call3_v155 : Ref sig .tc := ⟨.hbm, 944, rfl⟩
abbrev main_call0_call3_v156 : Ref sig .tc := ⟨.hbm, 945, rfl⟩
abbrev main_call0_call3_c_40 : Ref sig .tc := ⟨.hbm, 946, rfl⟩
abbrev main_call0_call3_v157 : Ref sig .tc := ⟨.hbm, 947, rfl⟩
abbrev main_call0_call3_v158 : Ref sig .tc := ⟨.hbm, 948, rfl⟩
abbrev main_call0_call3_c_41 : Ref sig .tc := ⟨.hbm, 949, rfl⟩
abbrev main_call0_call3_v159 : Ref sig .tc := ⟨.hbm, 950, rfl⟩
abbrev main_call0_call3_v160 : Ref sig .tc := ⟨.hbm, 951, rfl⟩
abbrev main_call0_call3_v161 : Ref sig .tc := ⟨.hbm, 952, rfl⟩
abbrev main_call0_call3_v162 : Ref sig .tc := ⟨.hbm, 953, rfl⟩
abbrev main_call0_call3_v163 : Ref sig .tc := ⟨.hbm, 954, rfl⟩
abbrev main_call0_call3_c_42 : Ref sig .tc := ⟨.hbm, 955, rfl⟩
abbrev main_call0_call3_v164 : Ref sig .tc := ⟨.hbm, 956, rfl⟩
abbrev main_call0_call3_v165 : Ref sig .tc := ⟨.hbm, 957, rfl⟩
abbrev main_call0_call3_c_43 : Ref sig .tc := ⟨.hbm, 958, rfl⟩
abbrev main_call0_call3_v166 : Ref sig .tc := ⟨.hbm, 959, rfl⟩
abbrev main_call0_call3_v167 : Ref sig .tc := ⟨.hbm, 960, rfl⟩
abbrev main_call0_call3_v168 : Ref sig .tc := ⟨.hbm, 961, rfl⟩
abbrev main_call0_call3_v169 : Ref sig .tc := ⟨.hbm, 962, rfl⟩
abbrev main_call0_call3_v170 : Ref sig .tc := ⟨.hbm, 963, rfl⟩
abbrev main_call0_v35_0 : Ref sig .tc := ⟨.hbm, 964, rfl⟩
abbrev main_call0_call3_v172 : Ref sig .tc := ⟨.hbm, 965, rfl⟩
abbrev main_call0_call3_v173 : Ref sig .tc := ⟨.hbm, 966, rfl⟩
abbrev main_call0_call3_c_44 : Ref sig .tc := ⟨.hbm, 967, rfl⟩
abbrev main_call0_call3_v174 : Ref sig .tc := ⟨.hbm, 968, rfl⟩
abbrev main_call0_v35_1 : Ref sig .tc := ⟨.hbm, 969, rfl⟩
abbrev main_call0_v36 : Ref sig .tc := ⟨.hbm, 970, rfl⟩
abbrev main_call0_v37_0 : Ref sig .tc := ⟨.hbm, 971, rfl⟩
abbrev main_v9 : Ref sig .tc := ⟨.hbm, 972, rfl⟩
abbrev main_v10 : Ref sig .tc := ⟨.hbm, 973, rfl⟩
abbrev main_c_2 : Ref sig .tc := ⟨.hbm, 974, rfl⟩
abbrev main_v11 : Ref sig .tc := ⟨.hbm, 975, rfl⟩
abbrev main_v12 : Ref sig .tc := ⟨.hbm, 976, rfl⟩
abbrev main_c_3 : Ref sig .tc := ⟨.hbm, 977, rfl⟩
abbrev main_v13 : Ref sig .tc := ⟨.hbm, 978, rfl⟩
abbrev main_v14 : Ref sig .tc := ⟨.hbm, 979, rfl⟩
abbrev main_v15 : Ref sig .tc := ⟨.hbm, 980, rfl⟩
abbrev main_v16 : Ref sig .tc := ⟨.hbm, 981, rfl⟩
abbrev main_v17 : Ref sig .tc := ⟨.hbm, 982, rfl⟩
abbrev main_c_4 : Ref sig .tc := ⟨.hbm, 983, rfl⟩
abbrev main_v18 : Ref sig .tc := ⟨.hbm, 984, rfl⟩
abbrev main_c_5 : Ref sig .tc := ⟨.hbm, 985, rfl⟩
abbrev main_c_6 : Ref sig .tc := ⟨.hbm, 986, rfl⟩
abbrev main_v19_0 : Ref sig .tc := ⟨.hbm, 987, rfl⟩
abbrev main_v19_1 : Ref sig .tc := ⟨.hbm, 988, rfl⟩
abbrev main_v19_2 : Ref sig .tc := ⟨.hbm, 989, rfl⟩
abbrev main_v19_3 : Ref sig .tc := ⟨.hbm, 990, rfl⟩
abbrev main_v19_4 : Ref sig .tc := ⟨.hbm, 991, rfl⟩
abbrev main_while0c_c_11 : Ref sig .tc := ⟨.hbm, 992, rfl⟩
abbrev main_while0c_v22 : Ref sig .tc := ⟨.hbm, 993, rfl⟩
abbrev main_while0b_c_11 : Ref sig .tc := ⟨.hbm, 994, rfl⟩
abbrev main_while0b_v22 : Ref sig .tc := ⟨.hbm, 995, rfl⟩
abbrev main_while0b_v23 : Ref sig .tc := ⟨.hbm, 996, rfl⟩
abbrev main_while0b_cst : Ref sig .tc := ⟨.hbm, 997, rfl⟩
abbrev main_while0b_v24 : Ref sig .tc := ⟨.hbm, 998, rfl⟩
abbrev main_while0b_v25 : Ref sig .tc := ⟨.hbm, 999, rfl⟩
abbrev main_while0b_v26 : Ref sig .tc := ⟨.hbm, 1000, rfl⟩
abbrev main_while0b_cst_12 : Ref sig .tc := ⟨.hbm, 1001, rfl⟩
abbrev main_while0b_v27 : Ref sig .tc := ⟨.hbm, 1002, rfl⟩
abbrev main_while0b_v28 : Ref sig .tc := ⟨.hbm, 1003, rfl⟩
abbrev main_while0b_v29 : Ref sig .tc := ⟨.hbm, 1004, rfl⟩
abbrev main_while0b_v30 : Ref sig .tc := ⟨.hbm, 1005, rfl⟩
abbrev main_while0b_cst_13 : Ref sig .tc := ⟨.hbm, 1006, rfl⟩
abbrev main_while0b_v31 : Ref sig .tc := ⟨.hbm, 1007, rfl⟩
abbrev main_while0b_v32 : Ref sig .tc := ⟨.hbm, 1008, rfl⟩
abbrev main_while0b_v33 : Ref sig .tc := ⟨.hbm, 1009, rfl⟩
abbrev main_while0b_v34 : Ref sig .tc := ⟨.hbm, 1010, rfl⟩
abbrev main_while0b_v35 : Ref sig .tc := ⟨.hbm, 1011, rfl⟩
abbrev main_while0b_v36 : Ref sig .tc := ⟨.hbm, 1012, rfl⟩
abbrev main_while0b_v37 : Ref sig .tc := ⟨.hbm, 1013, rfl⟩
abbrev main_while0b_call1_v0 : Ref sig .tc := ⟨.hbm, 1014, rfl⟩
abbrev main_while0b_call1_cst : Ref sig .tc := ⟨.hbm, 1015, rfl⟩
abbrev main_while0b_call1_c : Ref sig .tc := ⟨.hbm, 1016, rfl⟩
abbrev main_while0b_call1_v1_0 : Ref sig .tc := ⟨.hbm, 1017, rfl⟩
abbrev main_while0b_v38 : Ref sig .tc := ⟨.hbm, 1018, rfl⟩
abbrev main_while0b_c_14 : Ref sig .tc := ⟨.hbm, 1019, rfl⟩
abbrev main_while0b_v39 : Ref sig .tc := ⟨.hbm, 1020, rfl⟩
abbrev main_while0b_c_15 : Ref sig .tc := ⟨.hbm, 1021, rfl⟩
abbrev main_while0b_call2_v0 : Ref sig .tc := ⟨.hbm, 1022, rfl⟩
abbrev main_while0b_call2_v1 : Ref sig .tc := ⟨.hbm, 1023, rfl⟩
abbrev main_while0b_v40 : Ref sig .tc := ⟨.hbm, 1024, rfl⟩
abbrev main_while0b_c_16 : Ref sig .tc := ⟨.hbm, 1025, rfl⟩
abbrev main_while0b_v41 : Ref sig .tc := ⟨.hbm, 1026, rfl⟩
abbrev main_while0b_v42 : Ref sig .tc := ⟨.hbm, 1027, rfl⟩
abbrev main_while0b_c_17 : Ref sig .tc := ⟨.hbm, 1028, rfl⟩
abbrev main_while0b_v43 : Ref sig .tc := ⟨.hbm, 1029, rfl⟩
abbrev main_while0b_v44 : Ref sig .tc := ⟨.hbm, 1030, rfl⟩
abbrev main_while0b_v45 : Ref sig .tc := ⟨.hbm, 1031, rfl⟩
abbrev main_while0b_v46 : Ref sig .tc := ⟨.hbm, 1032, rfl⟩
abbrev main_while0b_c_18 : Ref sig .tc := ⟨.hbm, 1033, rfl⟩
abbrev main_while0b_v47 : Ref sig .tc := ⟨.hbm, 1034, rfl⟩
abbrev main_while0b_v48 : Ref sig .tc := ⟨.hbm, 1035, rfl⟩
abbrev main_while0b_c_19 : Ref sig .tc := ⟨.hbm, 1036, rfl⟩
abbrev main_while0b_v49 : Ref sig .tc := ⟨.hbm, 1037, rfl⟩
abbrev main_while0b_v50 : Ref sig .tc := ⟨.hbm, 1038, rfl⟩
abbrev main_while0b_c_20 : Ref sig .tc := ⟨.hbm, 1039, rfl⟩
abbrev main_while0b_call3_v0 : Ref sig .tc := ⟨.hbm, 1040, rfl⟩
abbrev main_while0b_call3_v1 : Ref sig .tc := ⟨.hbm, 1041, rfl⟩
abbrev main_while0b_v51 : Ref sig .tc := ⟨.hbm, 1042, rfl⟩
abbrev main_while0b_cst_21 : Ref sig .tc := ⟨.hbm, 1043, rfl⟩
abbrev main_while0b_v52 : Ref sig .tc := ⟨.hbm, 1044, rfl⟩
abbrev main_while0b_c_22 : Ref sig .tc := ⟨.hbm, 1045, rfl⟩
abbrev main_while0b_v53 : Ref sig .tc := ⟨.hbm, 1046, rfl⟩
abbrev main_while0b_v54 : Ref sig .tc := ⟨.hbm, 1047, rfl⟩
abbrev main_while0b_c_23 : Ref sig .tc := ⟨.hbm, 1048, rfl⟩
abbrev main_while0b_v55 : Ref sig .tc := ⟨.hbm, 1049, rfl⟩
abbrev main_while0b_v56 : Ref sig .tc := ⟨.hbm, 1050, rfl⟩
abbrev main_while0b_v57 : Ref sig .tc := ⟨.hbm, 1051, rfl⟩
abbrev main_while0b_v58 : Ref sig .tc := ⟨.hbm, 1052, rfl⟩
abbrev main_while0b_v59 : Ref sig .tc := ⟨.hbm, 1053, rfl⟩
abbrev main_while0b_v60 : Ref sig .tc := ⟨.hbm, 1054, rfl⟩
abbrev main_while0b_v61 : Ref sig .tc := ⟨.hbm, 1055, rfl⟩
abbrev main_while0b_v62 : Ref sig .tc := ⟨.hbm, 1056, rfl⟩
abbrev main_while0b_v63 : Ref sig .tc := ⟨.hbm, 1057, rfl⟩
abbrev main_while0b_v64 : Ref sig .tc := ⟨.hbm, 1058, rfl⟩
abbrev main_while0b_call4_v0 : Ref sig .tc := ⟨.hbm, 1059, rfl⟩
abbrev main_while0b_v65 : Ref sig .tc := ⟨.hbm, 1060, rfl⟩
abbrev main_while0b_c_24 : Ref sig .tc := ⟨.hbm, 1061, rfl⟩
abbrev main_while0b_v66 : Ref sig .tc := ⟨.hbm, 1062, rfl⟩
abbrev main_v20 : Ref sig .tc := ⟨.hbm, 1063, rfl⟩
abbrev main_call5_c : Ref sig .tc := ⟨.hbm, 1064, rfl⟩
abbrev main_call5_v0 : Ref sig .tc := ⟨.hbm, 1065, rfl⟩
abbrev main_call5_v1 : Ref sig .tc := ⟨.hbm, 1066, rfl⟩
abbrev main_call5_c_0 : Ref sig .tc := ⟨.hbm, 1067, rfl⟩
abbrev main_call5_v2 : Ref sig .tc := ⟨.hbm, 1068, rfl⟩
abbrev main_call5_v3 : Ref sig .tc := ⟨.hbm, 1069, rfl⟩
abbrev main_call5_v4 : Ref sig .tc := ⟨.hbm, 1070, rfl⟩
abbrev main_call5_v5 : Ref sig .tc := ⟨.hbm, 1071, rfl⟩
abbrev main_call5_c_1 : Ref sig .tc := ⟨.hbm, 1072, rfl⟩
abbrev main_call5_c_2 : Ref sig .tc := ⟨.hbm, 1073, rfl⟩
abbrev main_call5_v6 : Ref sig .tc := ⟨.hbm, 1074, rfl⟩
abbrev main_call5_v7 : Ref sig .tc := ⟨.hbm, 1075, rfl⟩
abbrev main_call5_v8 : Ref sig .tc := ⟨.hbm, 1076, rfl⟩
abbrev main_call5_v9 : Ref sig .tc := ⟨.hbm, 1077, rfl⟩
abbrev main_call5_v10 : Ref sig .tc := ⟨.hbm, 1078, rfl⟩
abbrev main_call5_v11 : Ref sig .tc := ⟨.hbm, 1079, rfl⟩
abbrev main_call5_c_3 : Ref sig .tc := ⟨.hbm, 1080, rfl⟩
abbrev main_call5_v12 : Ref sig .tc := ⟨.hbm, 1081, rfl⟩
abbrev main_call5_v13 : Ref sig .tc := ⟨.hbm, 1082, rfl⟩
abbrev main_call5_v14 : Ref sig .tc := ⟨.hbm, 1083, rfl⟩
abbrev main_call5_cst : Ref sig .tc := ⟨.hbm, 1084, rfl⟩
abbrev main_call5_v15 : Ref sig .tc := ⟨.hbm, 1085, rfl⟩
abbrev main_v21 : Ref sig .tc := ⟨.hbm, 1086, rfl⟩

abbrev nD : Nat := 1
abbrev τ : Topo := Topo.v7x

variable {F : FTy → Type} [FloatOps F]

abbrev main_while0_count : Scf.Loop 32 := ⟨0#32, 10#32, 1#32⟩
-- ==== Proof.BodyI.lean ====
module
public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit.Basic
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The offsets: the second grid coordinate is always zero -/

theorem coord1 (i : grid0.Coords) : (i 1).val = 0 := Nat.lt_one_iff.mp (i 1).isLt

theorem off1_eq (i : grid0.Coords) : k0_off1 i = ![0, 0] := by simp only [k0_off1, coord1]; decide
theorem off2_eq (i : grid0.Coords) : k0_off2 i = ![0, 0] := by simp only [k0_off2, coord1]; decide
theorem off3_eq (i : grid0.Coords) : k0_off3 i = ![0, 128] := by simp only [k0_off3, coord1]; decide
theorem off4_eq (i : grid0.Coords) : k0_off4 i = ![0, 256] := by simp only [k0_off4, coord1]; decide
theorem off5_eq (i : grid0.Coords) : k0_off5 i = ![0, 384] := by simp only [k0_off5, coord1]; decide
theorem off6_eq (i : grid0.Coords) (w : BitVec 32) : k0_off6 i w = ![w.toNat, 0] := by
  simp only [k0_off6, coord1, Scalar.muli, Scalar.addi, Scalar.indexCast]; simp [IntOp.addi, IntOp.muli]
theorem off7_eq (i : grid0.Coords) (w : BitVec 32) : k0_off7 i w = ![0, w.toNat] := by
  simp only [k0_off7, coord1, Scalar.muli, Scalar.addi, Scalar.indexCast]; simp [IntOp.addi, IntOp.muli]
theorem off8_eq (i : grid0.Coords) (w : BitVec 32) : k0_off8 i w = ![w.toNat, 0] := by
  simp only [k0_off8, coord1, Scalar.muli, Scalar.addi, Scalar.indexCast]; simp [IntOp.addi, IntOp.muli]
theorem off9_eq (i : grid0.Coords) : k0_off9 i = ![0, 0] := by simp only [k0_off9, coord1]; decide
theorem off10_eq (i : grid0.Coords) : k0_off10 i = ![0, 0] := by simp only [k0_off10, coord1]; decide

instance (i : grid0.Coords) : ClosedOff (k0_off1 i) := ⟨![0, 0], off1_eq i⟩
instance (i : grid0.Coords) : ClosedOff (k0_off2 i) := ⟨![0, 0], off2_eq i⟩
instance (i : grid0.Coords) : ClosedOff (k0_off3 i) := ⟨![0, 128], off3_eq i⟩
instance (i : grid0.Coords) : ClosedOff (k0_off4 i) := ⟨![0, 256], off4_eq i⟩
instance (i : grid0.Coords) : ClosedOff (k0_off5 i) := ⟨![0, 384], off5_eq i⟩
instance (i : grid0.Coords) : ClosedOff (k0_off6 i 0#32) := ⟨![0, 0], off6_eq i _⟩
instance (i : grid0.Coords) : ClosedOff (k0_off6 i 2048#32) := ⟨![2048, 0], off6_eq i _⟩
instance (i : grid0.Coords) : ClosedOff (k0_off6 i 4096#32) := ⟨![4096, 0], off6_eq i _⟩
instance (i : grid0.Coords) : ClosedOff (k0_off6 i 6144#32) := ⟨![6144, 0], off6_eq i _⟩
instance (i : grid0.Coords) : ClosedOff (k0_off7 i 0#32) := ⟨![0, 0], off7_eq i _⟩
instance (i : grid0.Coords) : ClosedOff (k0_off7 i 2048#32) := ⟨![0, 2048], off7_eq i _⟩
instance (i : grid0.Coords) : ClosedOff (k0_off7 i 4096#32) := ⟨![0, 4096], off7_eq i _⟩
instance (i : grid0.Coords) : ClosedOff (k0_off7 i 6144#32) := ⟨![0, 6144], off7_eq i _⟩
instance (i : grid0.Coords) : ClosedOff (k0_off8 i 0#32) := ⟨![0, 0], off8_eq i _⟩
instance (i : grid0.Coords) : ClosedOff (k0_off8 i 2048#32) := ⟨![2048, 0], off8_eq i _⟩
instance (i : grid0.Coords) : ClosedOff (k0_off8 i 4096#32) := ⟨![4096, 0], off8_eq i _⟩
instance (i : grid0.Coords) : ClosedOff (k0_off8 i 6144#32) := ⟨![6144, 0], off8_eq i _⟩
instance (i : grid0.Coords) : ClosedOff (k0_off9 i) := ⟨![0, 0], off9_eq i⟩
instance (i : grid0.Coords) : ClosedOff (k0_off10 i) := ⟨![0, 0], off10_eq i⟩

/-! ## The conditions -/

theorem inner_cond (i : grid0.Coords) :
    Scalar.cmpi .ne (Scalar.extui (Scalar.cmpi .eq (BitVec.ofNat 32 (i 1).val) 0#32) : BitVec 32) 0#32 = 1#1 := by
  rw [coord1]; decide
theorem cond7_eq (i : grid0.Coords) : k0_cond7 i = 1#1 := by simp only [k0_cond7, coord1]; decide

set_option sl_exec.closedPieces true
set_option sl_exec.closedLoads true

/-! ## The contents the body leaves -/

section Values

/-- The doubled rows: what the first point writes over the doubled-row scratch. -/
def doubled (x : Vec F S8192x128 .f32) : Vec F S8192x128 .f32 := k0_pay2 x

/-- The split rows beside the column of ones. -/
def split (x : Vec F S8192x128 .f32) : Vec F S8192x512 .bf16 :=
  View.canon [⟨Rect.unit (s := S8192x512) ![0, 384] S8192x128.size (by decide), k0_pay9⟩,
    ⟨Rect.unit (s := S8192x512) ![0, 256] S8192x128.size (by decide), k0_pay8 x⟩,
    ⟨Rect.unit (s := S8192x512) ![0, 128] S8192x128.size (by decide), k0_pay7 x⟩,
    ⟨Rect.unit (s := S8192x512) ![0, 0] S8192x128.size (by decide), k0_pay6 x⟩]

/-- The means the first point starts from. -/
def start (mm : Vec F S300x128 .f32) : Vec F S300x128 .f32 := k0_pay10 mm

/-- The cluster numbers down a block of distances. -/
def ids : IVec S300x2048 32 := iota .tc S300x2048 32 [0] iota_S300x2048_d0_w32

/-- 2048 rows of an array of 8192 by 128, from row `o`. -/
def rows8 (X : Vec F S8192x128 .f32) (o : ℕ) (h : ∀ a, ![o, 0] a + S2048x128.size a ≤ S8192x128.size a) : Vec F S2048x128 .f32 :=
  View.ld X (Rect.unit (s := S8192x128) ![o, 0] S2048x128.size h)

/-- 2048 rows of the split array, from row `o`. -/
def rows9 (X : Vec F S8192x512 .bf16) (o : ℕ) (h : ∀ a, ![o, 0] a + S2048x512.size a ≤ S8192x512.size a) : Vec F S2048x512 .bf16 :=
  View.ld X (Rect.unit (s := S8192x512) ![o, 0] S2048x512.size h)

/-- 2048 columns of a row of 8192, from column `o`. -/
def cols (X : Vec F S1x8192 .f32) (o : ℕ) (h : ∀ a, ![0, o] a + S1x2048.size a ≤ S1x8192.size a) : Vec F S1x2048 .f32 :=
  View.ld X (Rect.unit (s := S1x8192) ![0, o] S1x2048.size h)

variable (S8 : Vec F S8192x128 .f32) (S9 : Vec F S8192x512 .bf16) (s2 : Vec F S1x8192 .f32) (mn : Vec F S300x128 .f32)

/-- The scalar products of the means with the doubled rows, a block at a time. -/
def dot0 : FVec F S300x2048 .f32 := k0_pay20 mn (rows8 S8 0 (by decide))
def dot1 : FVec F S300x2048 .f32 := k0_pay21 mn (rows8 S8 2048 (by decide))
def dot2 : FVec F S300x2048 .f32 := k0_pay22 mn (rows8 S8 4096 (by decide))
def dot3 : FVec F S300x2048 .f32 := k0_pay23 mn (rows8 S8 6144 (by decide))

/-- The last block's nearest cluster numbers, before they are laid out as a row. -/
def hot3 : IVec S300x2048 32 := k0_pay31 ids (k0_pay19 mn) (dot3 S8 mn) (cols s2 6144 (by decide))

/-- The nearest cluster numbers of all the rows. -/
def nearest : Vec F S1x8192 .i32 :=
  View.canon [⟨Rect.unit (s := S1x8192) ![0, 6144] S1x2048.size (by decide), k0_pay11 (hot3 S8 s2 mn)⟩,
    ⟨Rect.unit (s := S1x8192) ![0, 4096] S1x2048.size (by decide), k0_pay29 ids (k0_pay19 mn) (dot2 S8 mn) (cols s2 4096 (by decide))⟩,
    ⟨Rect.unit (s := S1x8192) ![0, 2048] S1x2048.size (by decide), k0_pay26 ids (k0_pay19 mn) (dot1 S8 mn) (cols s2 2048 (by decide))⟩,
    ⟨Rect.unit (s := S1x8192) ![0, 0] S1x2048.size (by decide), k0_pay24 ids (k0_pay19 mn) (dot0 S8 mn) (cols s2 0 (by decide))⟩]

/-- The sums of the split rows by cluster, a block at a time. -/
def acc0 : FVec F S300x512 .f32 := k0_pay25 ids (k0_pay19 mn) (dot0 S8 mn) (cols s2 0 (by decide)) (rows9 S9 0 (by decide))
def acc1 : FVec F S300x512 .f32 := k0_pay28 (k0_pay27 ids (k0_pay19 mn) (dot1 S8 mn) (cols s2 2048 (by decide))) (rows9 S9 2048 (by decide))
def acc2 : FVec F S300x512 .f32 := k0_pay30 ids (k0_pay19 mn) (dot2 S8 mn) (cols s2 4096 (by decide)) (rows9 S9 4096 (by decide))

/-- The sums of the rows by cluster. -/
def sums : Vec F S300x128 .f32 :=
  k0_pay13 ids (acc0 S8 S9 s2 mn) (acc1 S8 S9 s2 mn) (acc2 S8 S9 s2 mn) (hot3 S8 s2 mn) (rows9 S9 6144 (by decide)) k0_pay17

/-- The numbers of rows by cluster. -/
def counts : Vec F S300x1 .f32 :=
  k0_pay14 ids (acc0 S8 S9 s2 mn) (acc1 S8 S9 s2 mn) (acc2 S8 S9 s2 mn) (hot3 S8 s2 mn) (rows9 S9 6144 (by decide)) k0_pay18

/-- The means after one iteration. -/
def stepMeans : Vec F S300x128 .f32 := k0_pay15 (counts S8 S9 s2 mn) (sums S8 S9 s2 mn) mn

end Values

/-! ## Reading a buffer back -/

section Read
variable {sp : Space} {s : Shape} {e : EltTy}

theorem readAt_ld (v : View sig .tc sp s e) (r : Rect s) (f : v.ty.Contents (Elt F)) :
    View.readAt (Elt F) v r.toLoadRect f = View.ld (v.read (Elt F) f) r := rfl

theorem readCov_ld (v : View sig .tc sp s e) (L : List (View.Piece (Elt F) s e)) (r : Rect s) :
    v.readCov L r.toLoadRect = View.ld (View.canon L) r := View.readCov_eq_canon' v L r.toLoadRect

theorem off00 : (![0, 0] : Fin 2 → ℕ) = fun _ => 0 := by decide

theorem ld_whole {d : Fin 2 → ℕ} (inb : ∀ a, ![0, 0] a + d a ≤ d a) (X : (⟨2, d⟩ : Shape).Idx → Elt F e) :
    View.ld (S := ⟨2, d⟩) X (Rect.unit (s := ⟨2, d⟩) ![0, 0] (no_index d) inb) = X := View.ld_unit_zero off00 inb X

theorem canon_whole {d : Fin 2 → ℕ} (inb : ∀ a, ![0, 0] a + d a ≤ d a) (w : (⟨2, d⟩ : Shape).Idx → Elt F e)
    (L : List (View.Piece (Elt F) ⟨2, d⟩ e)) :
    View.canon ((⟨Rect.unit (s := ⟨2, d⟩) ![0, 0] (no_index d) inb, w⟩ : View.Piece (Elt F) ⟨2, d⟩ e) :: L) = w :=
  View.canon_cons_unit_zero off00 inb w L

end Read

/-! ## The body's triples -/

/-- A body point before the last: what it leaves of the rows' clusters, the scratch and the means. -/
theorem body_step (c : Dev nD) (E : Set ℕ) (i : grid0.Coords) (h3 : k0_cond3 i = 1#1) (h6 : ¬ k0_cond6 i = 1#1)
    (arg2 : Memref sig .tc .vmem S8192x128 .f32) (harg2 : arg2.IsWhole) (arg3 : Memref sig .tc .vmem S1x8192 .f32) (harg3 : arg3.IsWhole)
    (arg4 : Memref sig .tc .vmem S300x128 .f32) (harg4 : arg4.IsWhole) (arg5 : Memref sig .tc .vmem S8192x128 .f32) (harg5 : arg5.IsWhole)
    (arg6 : Memref sig .tc .vmem S1x8192 .i32) (harg6 : arg6.IsWhole) (arg7 : Memref sig .tc .vmem S300x128 .f32) (harg7 : arg7.IsWhole)
    (arg8 : Memref sig .tc .vmem S8192x128 .f32) (harg8 : arg8.IsWhole) (arg9 : Memref sig .tc .vmem S8192x512 .bf16) (harg9 : arg9.IsWhole)
    (arg10 : Memref sig .tc .vmem S300x128 .f32) (harg10 : arg10.IsWhole) (arg11 : Memref sig .tc .vmem S300x1 .f32) (harg11 : arg11.IsWhole)
    (arg12 : Memref sig .tc .vmem S300x128 .f32) (harg12 : arg12.IsWhole) (arg13 : Memref sig .tc .vmem S300x1 .f32) (harg13 : arg13.IsWhole)
    (x : Vec F S8192x128 .f32) (s2 : Vec F S1x8192 .f32) (mm : Vec F S300x128 .f32) (d8 : Vec F S8192x128 .f32) (d9 : Vec F S8192x512 .bf16) (d10 : Vec F S300x128 .f32)
    (S8 : Vec F S8192x128 .f32) (S9 : Vec F S8192x512 .bf16) (mn : Vec F S300x128 .f32)
    (hst : if k0_cond1 i = 1#1 then S8 = doubled x ∧ S9 = split x ∧ mn = start mm else S8 = d8 ∧ S9 = d9 ∧ mn = d10)
    (K : PUnit → sProp 𝕄) :
    iprop(owns (c : Thread nD τ) arg2 fullShare x
        ∗ owns (c : Thread nD τ) arg3 fullShare s2
        ∗ owns (c : Thread nD τ) arg4 fullShare mm
        ∗ (∃ d, owns (c : Thread nD τ) arg6 fullShare d)
        ∗ owns (c : Thread nD τ) arg8 fullShare d8
        ∗ owns (c : Thread nD τ) arg9 fullShare d9
        ∗ owns (c : Thread nD τ) arg10 fullShare d10
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x
        ∗ owns (c : Thread nD τ) arg3 fullShare s2
        ∗ owns (c : Thread nD τ) arg4 fullShare mm
        ∗ owns (c : Thread nD τ) arg6 fullShare (nearest S8 s2 mn)
        ∗ owns (c : Thread nD τ) arg8 fullShare S8
        ∗ owns (c : Thread nD τ) arg9 fullShare S9
        ∗ owns (c : Thread nD τ) arg10 fullShare (stepMeans S8 S9 s2 mn)
        ∗ (∃ d, owns (c : Thread nD τ) arg11 fullShare d)
        ∗ (∃ d, owns (c : Thread nD τ) arg12 fullShare d)
        ∗ (∃ d, owns (c : Thread nD τ) arg13 fullShare d)) -∗ K ⟨⟩))
      ⊢ wp frame (wpE (defs₀ (F := F)) Variants.none c none) E (cc0__kmeans_body i arg2 harg2 arg3 harg3 arg4 harg4 arg5 harg5 arg6 harg6 arg7 harg7 arg8 harg8 arg9 harg9 arg10 harg10 arg11 harg11 arg12 harg12 arg13 harg13) K := by
  simp only [cc0__kmeans_body_eq_skeleton]; unfold cc0__kmeans_body_skel
  unfold owns
  iintro ⟨⟨%f2, %hf2, H2⟩, ⟨%f3, %hf3, H3⟩, ⟨%f4, %hf4, H4⟩, ⟨%d6, %f6, -, H6⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  have hc := inner_cond i
  by_cases h1 : k0_cond1 i = 1#1
  · rw [if_pos h1] at hst
    obtain ⟨e8, e9, e10⟩ := hst
    set_option sl_exec.stopBefore "k0_cond3" in sl_exec
    ihave H8 : (owns (c : Thread nD τ) arg8 fullShare S8) $$ [H8]
    · unfold owns
      iexists _; isplitr; swap; · iexact H8
      ipureintro
      refine (View.read_writes_eq_canon _ _ _ ?_).trans ?_
      · exact View.cover_of_tiled _ S8192x128.size (by rfl)
      subst e8 hf2
      simp only [readAt_ld, ld_whole, canon_whole]
      rfl
    ihave H9 : (owns (c : Thread nD τ) arg9 fullShare S9) $$ [H9]
    · unfold owns
      iexists _; isplitr; swap; · iexact H9
      ipureintro
      refine (View.read_writes_eq_canon _ _ _ ?_).trans ?_
      · exact View.cover_of_tiled _ S8192x128.size (by rfl)
      subst e9 hf2
      simp only [readAt_ld, ld_whole, canon_whole]
      rfl
    ihave H10 : (owns (c : Thread nD τ) arg10 fullShare mn) $$ [H10]
    · unfold owns
      iexists _; isplitr; swap; · iexact H10
      ipureintro
      refine (View.read_writes_eq_canon _ _ _ ?_).trans ?_
      · exact View.cover_of_tiled _ S300x128.size (by rfl)
      subst e10 hf4
      simp only [readAt_ld, ld_whole, canon_whole]
      rfl
    clear e8 e9 e10 hf8 hf9 hf10
    unfold owns
    icases H8 with ⟨%g8, %hf8, H8⟩
    icases H9 with ⟨%g9, %hf9, H9⟩
    icases H10 with ⟨%g10, %hf10, H10⟩
    sl_exec
    sl_step
    iapply Hk
    subst hf2 hf3 hf4 hf8 hf9 hf10
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H6]
    · iexists _; isplitr; swap; · iexact H6
      ipureintro
      sl_unfold_words
      refine (View.read_writes_eq_canon _ _ _ ?_).trans ?_
      · exact View.cover_of_tiled _ S1x2048.size (by rfl)
      simp only [readAt_ld, readCov_ld, ld_whole, canon_whole]
      rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro
      sl_unfold_words
      refine (View.read_writes_eq_canon _ _ _ ?_).trans ?_
      · exact View.cover_of_tiled _ S300x128.size (by rfl)
      simp only [readAt_ld, readCov_ld, ld_whole, canon_whole]
      rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  · rw [if_neg h1] at hst
    obtain ⟨rfl, rfl, rfl⟩ := hst
    sl_exec
    sl_step
    iapply Hk
    subst hf2 hf3 hf4 hf8 hf9 hf10
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H6]
    · iexists _; isplitr; swap; · iexact H6
      ipureintro
      sl_unfold_words
      refine (View.read_writes_eq_canon _ _ _ ?_).trans ?_
      · exact View.cover_of_tiled _ S1x2048.size (by rfl)
      simp only [readAt_ld, readCov_ld, ld_whole, canon_whole]
      rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro
      sl_unfold_words
      refine (View.read_writes_eq_canon _ _ _ ?_).trans ?_
      · exact View.cover_of_tiled _ S300x128.size (by rfl)
      simp only [readAt_ld, readCov_ld, ld_whole, canon_whole]
      rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-- The last body point: the gathered means go out, and the means. -/
theorem body_last (c : Dev nD) (E : Set ℕ) (i : grid0.Coords) (h1 : ¬ k0_cond1 i = 1#1) (h3 : ¬ k0_cond3 i = 1#1) (h6 : k0_cond6 i = 1#1)
    (arg2 : Memref sig .tc .vmem S8192x128 .f32) (harg2 : arg2.IsWhole) (arg3 : Memref sig .tc .vmem S1x8192 .f32) (harg3 : arg3.IsWhole)
    (arg4 : Memref sig .tc .vmem S300x128 .f32) (harg4 : arg4.IsWhole) (arg5 : Memref sig .tc .vmem S8192x128 .f32) (harg5 : arg5.IsWhole)
    (arg6 : Memref sig .tc .vmem S1x8192 .i32) (harg6 : arg6.IsWhole) (arg7 : Memref sig .tc .vmem S300x128 .f32) (harg7 : arg7.IsWhole)
    (arg8 : Memref sig .tc .vmem S8192x128 .f32) (harg8 : arg8.IsWhole) (arg9 : Memref sig .tc .vmem S8192x512 .bf16) (harg9 : arg9.IsWhole)
    (arg10 : Memref sig .tc .vmem S300x128 .f32) (harg10 : arg10.IsWhole) (arg11 : Memref sig .tc .vmem S300x1 .f32) (harg11 : arg11.IsWhole)
    (arg12 : Memref sig .tc .vmem S300x128 .f32) (harg12 : arg12.IsWhole) (arg13 : Memref sig .tc .vmem S300x1 .f32) (harg13 : arg13.IsWhole)
    (bk : Vec F S1x8192 .i32) (mn : Vec F S300x128 .f32) (K : PUnit → sProp 𝕄) :
    iprop((∃ d, owns (c : Thread nD τ) arg5 fullShare d)
        ∗ owns (c : Thread nD τ) arg6 fullShare bk
        ∗ (∃ d, owns (c : Thread nD τ) arg7 fullShare d)
        ∗ owns (c : Thread nD τ) arg10 fullShare mn
        ∗ (iprop(owns (c : Thread nD τ) arg5 fullShare (k0_pay16 bk mn)
        ∗ owns (c : Thread nD τ) arg6 fullShare bk
        ∗ owns (c : Thread nD τ) arg7 fullShare mn
        ∗ owns (c : Thread nD τ) arg10 fullShare mn) -∗ K ⟨⟩))
      ⊢ wp frame (wpE (defs₀ (F := F)) Variants.none c none) E (cc0__kmeans_body i arg2 harg2 arg3 harg3 arg4 harg4 arg5 harg5 arg6 harg6 arg7 harg7 arg8 harg8 arg9 harg9 arg10 harg10 arg11 harg11 arg12 harg12 arg13 harg13) K := by
  simp only [cc0__kmeans_body_eq_skeleton]; unfold cc0__kmeans_body_skel
  unfold owns
  iintro ⟨⟨%d5, %f5, -, H5⟩, ⟨%f6, %hf6, H6⟩, ⟨%d7, %f7, -, H7⟩, ⟨%f10, %hf10, H10⟩, Hk⟩
  have h7 := cond7_eq i
  sl_exec
  sl_step
  iapply Hk
  subst hf6 hf10
  isplitl [H5]
  · iexists _; isplitr; swap; · iexact H5
    ipureintro
    sl_unfold_words
    refine (View.read_writes_eq_canon _ _ _ ?_).trans ?_
    · exact View.cover_of_tiled _ S8192x128.size (by rfl)
    simp only [readAt_ld, readCov_ld, ld_whole, canon_whole]
  isplitl [H6]
  · iexists _; isplitr; swap; · iexact H6
    ipureintro; rfl
  isplitl [H7]
  · iexists _; isplitr; swap; · iexact H7
    ipureintro
    sl_unfold_words
    refine (View.read_writes_eq_canon _ _ _ ?_).trans ?_
    · exact View.cover_of_tiled _ S300x128.size (by rfl)
    simp only [readAt_ld, readCov_ld, ld_whole, canon_whole]
  iexists _; isplitr; swap; · iexact H10
  ipureintro; rfl

end Cert.KernelIdeal.Hand
end
-- ==== Proof.FrameI.lean ====
module
public import proofs.«01_k».proof.Proof.BodyI
public import Idealize.ShloMosaic.Lib.Pipeline.ValueKit.Geometry
public import Idealize.ShloMosaic.Lib.Pipeline.FrameSuffix
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region reads, and the means point by point -/

/-- The rows, their squared lengths and the means the region starts from. -/
def xin (c : Dev nD) : Vec F S8192x128 .f32 := V m c main_v0
def s2in (c : Dev nD) : Vec F S1x8192 .f32 := V m c main_v21
def min0 (c : Dev nD) : Vec F S300x128 .f32 := V m c main_v17

/-- One iteration from the means `mn`. -/
def next (c : Dev nD) (mn : Vec F S300x128 .f32) : Vec F S300x128 .f32 :=
  stepMeans (doubled (xin m c)) (split (xin m c)) (s2in m c) mn

/-- The means before iteration `n`. -/
def means (c : Dev nD) (n : ℕ) : Vec F S300x128 .f32 := (next m c)^[n] (start (min0 m c))

theorem means_zero (c : Dev nD) : means m c 0 = start (min0 m c) := by unfold means; exact Function.iterate_zero_apply _ _

theorem means_succ (c : Dev nD) (n : ℕ) : means m c (n + 1) = next m c (means m c n) := Function.iterate_succ_apply' _ _ _

/-- The rows' nearest clusters at iteration `n`. -/
def bucket (c : Dev nD) (n : ℕ) : Vec F S1x8192 .i32 := nearest (doubled (xin m c)) (s2in m c) (means m c n)

theorem index0 (t : Fin cfg0.N) (a) : (cfg0.win 0).index t a = 0 := by
  revert t a; decide +kernel
theorem index1 (t : Fin cfg0.N) (a) : (cfg0.win 1).index t a = 0 := by
  revert t a; decide +kernel
theorem index2 (t : Fin cfg0.N) (a) : (cfg0.win 2).index t a = 0 := by
  revert t a; decide +kernel

/-- Each input's block is its whole array. -/
theorem read0 (t : Fin cfg0.N) (W : Vec F S8192x128 .f32) : ((cfg0.win 0).blk t).view.read (Elt F) W = W := by
  funext y
  exact congrArg W (funext fun a => Fin.ext (Window.rect_emb_val_of_index_zero (cfg0.win 0) _ _ (index0 t a) y))
theorem read1 (t : Fin cfg0.N) (W : Vec F S1x8192 .f32) : ((cfg0.win 1).blk t).view.read (Elt F) W = W := by
  funext y
  exact congrArg W (funext fun a => Fin.ext (Window.rect_emb_val_of_index_zero (cfg0.win 1) _ _ (index1 t a) y))
theorem read2 (t : Fin cfg0.N) (W : Vec F S300x128 .f32) : ((cfg0.win 2).blk t).view.read (Elt F) W = W := by
  funext y
  exact congrArg W (funext fun a => Fin.ext (Window.rect_emb_val_of_index_zero (cfg0.win 2) _ _ (index2 t a) y))

theorem iblk0 (c : Dev nD) (t : Fin cfg0.N) : iblk m c 0 t = xin m c := by
  unfold iblk xin; exact read0 t _
theorem iblk1 (c : Dev nD) (t : Fin cfg0.N) : iblk m c 1 t = s2in m c := by
  unfold iblk s2in; exact read1 t _
theorem iblk2 (c : Dev nD) (t : Fin cfg0.N) : iblk m c 2 t = min0 m c := by
  unfold iblk min0; exact read2 t _

/-! ## The pipeline's proof data -/

/-- The scratch before point `n`: at anything before the first, then the doubled and the split rows and the means. -/
def PhiS (c : Dev nD) (n : ℕ) : sProp 𝕄 :=
  iprop((∃ d8 d9 d10, ⌜n ≠ 0 → d8 = doubled (xin m c) ∧ d9 = split (xin m c) ∧ d10 = means m c (min n 10)⌝
      ∗ owns (c : Thread nD τ) (Memref.whole cc0_scratch0) fullShare d8 ∗ owns (c : Thread nD τ) (Memref.whole cc0_scratch1) fullShare d9
      ∗ owns (c : Thread nD τ) (Memref.whole cc0_scratch2) fullShare d10)
    ∗ (∃ d, owns (c : Thread nD τ) (Memref.whole cc0_scratch3) fullShare d) ∗ (∃ d, owns (c : Thread nD τ) (Memref.whole cc0_scratch4) fullShare d)
    ∗ (∃ d, owns (c : Thread nD τ) (Memref.whole cc0_scratch5) fullShare d) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay16 (bucket m c 9) (means m c 10)
    | ⟨4, _⟩ => bucket m c (min t.val 9)
    | ⟨5, _⟩ => means m c 10
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay16 (bucket m c 9) (means m c 10) := by dsimp only [dats]
theorem after0_4 (c : Dev nD) (t : Fin cfg0.N) : (dats m 0 c).after 4 t = bucket m c (min t.val 9) := by dsimp only [dats]
theorem after0_5 (c : Dev nD) (t : Fin cfg0.N) : (dats m 0 c).after 5 t = means m c 10 := by dsimp only [dats]

theorem before0_0 (c : Dev nD) (t : Fin cfg0.N) (d) : (dats m 0 c).before 0 t d = xin m c :=
  (before0_0_of m (dats m 0 c) (A_eq m c 0) (after0_0 m c) t d).trans (iblk0 m c t)
theorem before0_1 (c : Dev nD) (t : Fin cfg0.N) (d) : (dats m 0 c).before 1 t d = s2in m c :=
  (before0_1_of m (dats m 0 c) (A_eq m c 1) (after0_1 m c) t d).trans (iblk1 m c t)
theorem before0_2 (c : Dev nD) (t : Fin cfg0.N) (d) : (dats m 0 c).before 2 t d = min0 m c :=
  (before0_2_of m (dats m 0 c) (A_eq m c 2) (after0_2 m c) t d).trans (iblk2 m c t)

theorem idle4 (t : Fin cfg0.N) : cfg0.idle 4 (cfg0.grid.coords t) = decide (t.val = 10) := by
  revert t; decide +kernel
theorem idle3 (t : Fin cfg0.N) : cfg0.idle 3 (cfg0.grid.coords t) = decide (t.val ≠ 10) := by
  revert t; decide +kernel
theorem idle5 (t : Fin cfg0.N) : cfg0.idle 5 (cfg0.grid.coords t) = decide (t.val ≠ 10) := by
  revert t; decide +kernel

theorem conds (t : Fin cfg0.N) : (k0_cond1 (grid0.coords t) = 1#1 ↔ t.val = 0) ∧ (k0_cond3 (grid0.coords t) = 1#1 ↔ t.val < 10)
    ∧ (k0_cond6 (grid0.coords t) = 1#1 ↔ t.val = 10) := by
  revert t; decide +kernel

/-- At the last point the rows' clusters are the last iteration's. -/
theorem before0_4 (c : Dev nD) (t : Fin cfg0.N) (ht : t.val = 10) (d) : (dats m 0 c).before 4 t d = bucket m c 9 := by
  rw [(dats m 0 c).before_of_pos 4 t (by omega) ((cfg0.win 4).fetch_out rfl t),
    if_neg (by rw [flush0_4]; simp only [ht]; decide)]
  unfold Dat.left
  rw [idle4, show decide ((⟨t.val - 1, Nat.lt_of_le_of_lt (Nat.sub_le _ _) t.isLt⟩ : Fin cfg0.N).val = 10) = false from decide_eq_false (by dsimp only; omega)]
  dsimp only
  unfold Dat.kept
  rw [Pipeline.fill_of_clip_none 4 _ (fun _ => rfl) d ((dats m 0 c).after 4 _), Window.fill_cut, after0_4, show min (⟨t.val - 1, Nat.lt_of_le_of_lt (Nat.sub_le _ _) t.isLt⟩ : Fin cfg0.N).val 9 = 9 by dsimp only; omega]

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns before the last point: windows 3 and 5 untouched, window 4 at the rows' clusters. -/
def bodyPostStep (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((dats m 0 c).before 3 t d))
    ∗ owns (c : Thread nD τ) (st0_4 t) fullShare ((dats m 0 c).after 4 t)
    ∗ (∃ d, owns (c : Thread nD τ) (st0_5 t) fullShare ((dats m 0 c).before 5 t d)))

/-- What it returns at the last point. -/
def bodyPostLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem Phi_cast (c : Dev nD) (t : Fin cfg0.N) : (dats m 0 c).Φ t.castSucc = PhiS m c t.val := by dsimp only [dats, Fin.val_castSucc]
theorem Phi_succ (c : Dev nD) (t : Fin cfg0.N) : (dats m 0 c).Φ t.succ = PhiS m c (t.val + 1) := by dsimp only [dats, Fin.val_succ]

theorem sound_step (c : Dev nD) (t : Fin cfg0.N) (ht : t.val < 10) :
    bodyPre m c t ⊢ wp frame (wpE (defs₀ (F := F)) Variants.none c none) Set.univ (bodyAt0 t) (fun _ => bodyPostStep m c t) := by
  unfold bodyPre bodyPostStep bodyAt0
  simp only [before0_0, before0_1, before0_2]
  rw [Phi_cast, Phi_succ, after0_0, after0_1, after0_2, after0_4, iblk0, iblk1, iblk2, show (dats m 0 c).owesAt () t.succ = (dats m 0 c).owesAt () t.castSucc from rfl]
  obtain ⟨k1, k3, k6⟩ := conds t
  unfold PhiS
  iintro ⟨⟨⟨%d8, %d9, %d10, %hd, A8, A9, A10⟩, A11, A12, A13, Hr⟩, Ho, ⟨%e0, H0⟩, ⟨%e1, H1⟩, ⟨%e2, H2⟩, H3, ⟨%e4, H4⟩, H5⟩
  iapply (body_step c Set.univ (grid0.coords t) (k3.mpr ht) (fun h => by have := k6.mp h; omega) _ _ _ _ _ _ _ _ _ _ _ _ _ _ _ _ _ _ _ _ _ _ _ _
    (xin m c) (s2in m c) (min0 m c) d8 d9 d10 (doubled (xin m c)) (split (xin m c)) (means m c t.val) ?_ _)
  · by_cases h0 : t.val = 0
    · rw [if_pos (k1.mpr h0), h0]; exact ⟨Eq.refl _, Eq.refl _, means_zero m c⟩
    · rw [if_neg (fun h => h0 (k1.mp h))]
      obtain ⟨a, b, e⟩ := hd h0
      rw [show min t.val 10 = t.val by omega] at e
      exact ⟨a.symm, b.symm, e.symm⟩
  isplitl [H0]; · iexact H0
  isplitl [H1]; · iexact H1
  isplitl [H2]; · iexact H2
  isplitl [H4]; · iexists _; iexact H4
  isplitl [A8]; · iexact A8
  isplitl [A9]; · iexact A9
  isplitl [A10]; · iexact A10
  isplitl [A11]; · iexact A11
  isplitl [A12]; · iexact A12
  isplitl [A13]; · iexact A13
  iintro ⟨H0, H1, H2, H4, A8, A9, A10, A11, A12, A13⟩
  isplitl [A8 A9 A10 A11 A12 A13 Hr]
  · isplitl [A8 A9 A10]
    · iexists _, _, _
      isplitr; swap
      · isplitl [A8]; · iexact A8
        isplitl [A9]; · iexact A9
        iexact A10
      ipureintro
      intro _
      refine ⟨rfl, rfl, ?_⟩
      rw [show min (t.val + 1) 10 = t.val + 1 by omega, means_succ]
      rfl
    isplitl [A11]; · iexact A11
    isplitl [A12]; · iexact A12
    isplitl [A13]; · iexact A13
    iexact Hr
  isplitl [Ho]; · iexact Ho
  isplitl [H0]; · iexact H0
  isplitl [H1]; · iexact H1
  isplitl [H2]; · iexact H2
  isplitl [H3]; · iexact H3
  isplitl [H4]
  · rw [show min t.val 9 = t.val by omega]; iexact H4
  iexact H5

theorem sound_last (c : Dev nD) (t : Fin cfg0.N) (ht : t.val = 10) :
    bodyPre m c t ⊢ wp frame (wpE (defs₀ (F := F)) Variants.none c none) Set.univ (bodyAt0 t) (fun _ => bodyPostLast m c t) := by
  unfold bodyPre bodyPostLast bodyAt0
  simp only [before0_0, before0_1, before0_2, before0_4 m c t ht]
  rw [Phi_cast, Phi_succ, after0_0, after0_1, after0_2, after0_4, after0_3, after0_5, iblk0, iblk1, iblk2, show (dats m 0 c).owesAt () t.succ = (dats m 0 c).owesAt () t.castSucc from rfl]
  obtain ⟨k1, k3, k6⟩ := conds t
  unfold PhiS
  iintro ⟨⟨⟨%d8, %d9, %d10, %hd, A8, A9, A10⟩, A11, A12, A13, Hr⟩, Ho, ⟨%e0, H0⟩, ⟨%e1, H1⟩, ⟨%e2, H2⟩, ⟨%e3, H3⟩, ⟨%e4, H4⟩, ⟨%e5, H5⟩⟩
  obtain ⟨rfl, rfl, rfl⟩ := hd (by omega)
  iapply (body_last c Set.univ (grid0.coords t) (fun h => by have := k1.mp h; omega) (fun h => by have := k3.mp h; omega) (k6.mpr ht) _ _ _ _ _ _ _ _ _ _ _ _ _ _ _ _ _ _ _ _ _ _ _ _
    (bucket m c 9) (means m c (min t.val 10)) _)
  isplitl [H3]; · iexists _; iexact H3
  isplitl [H4]; · iexact H4
  isplitl [H5]; · iexists _; iexact H5
  isplitl [A10]; · iexact A10
  iintro ⟨H3, H4, H5, A10⟩
  isplitl [A8 A9 A10 A11 A12 A13 Hr]
  · isplitl [A8 A9 A10]
    · iexists _, _, _
      isplitr; swap
      · isplitl [A8]; · iexact A8
        isplitl [A9]; · iexact A9
        iexact A10
      ipureintro
      intro _
      refine ⟨rfl, rfl, ?_⟩
      rw [show min (t.val + 1) 10 = min t.val 10 by omega]
    isplitl [A11]; · iexact A11
    isplitl [A12]; · iexact A12
    isplitl [A13]; · iexact A13
    iexact Hr
  isplitl [Ho]; · iexact Ho
  isplitl [H0]; · iexact H0
  isplitl [H1]; · iexact H1
  isplitl [H2]; · iexact H2
  rw [show min t.val 10 = 10 by omega, show min t.val 9 = 9 by omega]
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  have f3 : (cfg0.win 3).flush t = decide (t.val = 10) := by
    rw [Bool.eq_iff_iff, flush0_3, decide_eq_true_iff]; have := t.isLt; have : cfg0.N = 11 := N_0; omega
  have f4 : (cfg0.win 4).flush t = decide (t.val = 10) := by
    rw [Bool.eq_iff_iff, flush0_4, decide_eq_true_iff]; have := t.isLt; have : cfg0.N = 11 := N_0; omega
  have f5 : (cfg0.win 5).flush t = decide (t.val = 10) := by
    rw [Bool.eq_iff_iff, flush0_5, decide_eq_true_iff]; have := t.isLt; have : cfg0.N = 11 := N_0; omega
  by_cases ht : t.val = 10
  · rewrite [idle3 t, idle4 t, idle5 t, f3, f4, f5, decide_eq_true ht, decide_eq_false (not_not.mpr ht)]
    exact triple_restated (sound_last m c t ht) rfl .rfl fun _ => .rfl
  · rewrite [idle3 t, idle4 t, idle5 t, f3, f4, f5, decide_eq_false ht, decide_eq_true ht]
    exact triple_restated (sound_step m c t (by have := t.isLt; have : cfg0.N = 11 := N_0; omega)) rfl .rfl fun _ => .rfl

/-! ## The run and the frame -/

/-- What is not staged enters the first point's invariant at anything, -/
theorem phi_in (c : Dev nD) : Pipeline.ΦA spec0 c ⊢ (dats (F := F) m 0 c).Φ 0 := by
  rw [show (dats (F := F) m 0 c).Φ 0 = PhiS m c 0 from rfl]
  unfold Pipeline.ΦA PhiS
  rw [scopedRest0_eq]
  simp only [owns_whole]
  iintro ⟨⟨⟨%f0, H0⟩, ⟨%f1, H1⟩, ⟨%f2, H2⟩, H3, H4, H5⟩, Hr⟩
  isplitl [H0 H1 H2]
  · iexists f0, f1, f2
    isplitr; · ipureintro; exact fun h => absurd rfl h
    isplitl [H0]; · iexact H0
    isplitl [H1]; · iexact H1
    iexact H2
  isplitl [H3]; · iexact H3
  isplitl [H4]; · iexact H4
  isplitl [H5]; · iexact H5
  iexact Hr

/-- and leaves the last one's so. -/
theorem phi_out (c : Dev nD) : (dats (F := F) m 0 c).Φ (Fin.last cfg0.N) ⊢ Pipeline.ΦA spec0 c := by
  rw [show (dats (F := F) m 0 c).Φ (Fin.last cfg0.N) = PhiS m c cfg0.N from rfl]
  unfold Pipeline.ΦA PhiS
  rw [scopedRest0_eq]
  simp only [owns_whole]
  iintro ⟨⟨%f0, %f1, %f2, -, H0, H1, H2⟩, H3, H4, H5, Hr⟩
  isplitl [H0 H1 H2 H3 H4 H5]
  · isplitl [H0]; · iexists f0; iexact H0
    isplitl [H1]; · iexists f1; iexact H1
    isplitl [H2]; · iexists f2; iexact H2
    isplitl [H3]; · iexact H3
    isplitl [H4]; · iexact H4
    iexact H5
  iexact Hr

set_option backward.isDefEq.respectTransparency.types false in
/-- The launch: the arrays as the proof data compute them, the buffers after the region as its later lines leave them, and
    every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-! ## The arrays the region leaves -/

theorem after4_last (c : Dev nD) : (dats m 0 c).after 4 t0_10 = bucket m c 9 := by
  rw [after0_4]
  refine congrArg (bucket m c) ?_
  decide
theorem final3 (c : Dev nD) : (dats m 0 c).arrAt 3 cfg0.N = k0_pay16 (bucket m c 9) (means m c 10) := by
  funext i
  refine ((dats m 0 c).arrAt_emb_eq_after_last 3 t0_10 (by decide +kernel) i).trans ?_
  rw [after0_3]
  generalize k0_pay16 (bucket m c 9) (means m c 10) = G
  rfl
theorem final4 (c : Dev nD) : (dats m 0 c).arrAt 4 cfg0.N = bucket m c 9 := by
  funext i
  refine ((dats m 0 c).arrAt_emb_eq_after_last 4 t0_10 (by decide +kernel) i).trans ?_
  rw [after4_last]
  generalize bucket m c 9 = G
  rfl
theorem final5 (c : Dev nD) : (dats m 0 c).arrAt 5 cfg0.N = means m c 10 := by
  funext i
  refine ((dats m 0 c).arrAt_emb_eq_after_last 5 t0_10 (by decide +kernel) i).trans ?_
  rw [after0_5]
  generalize means m c 10 = G
  rfl

end Cert.KernelIdeal.Hand
end
-- ==== Proof.RefOps.lean ====
module
public import proofs.«01_k».proof.Proof.Gen.ReferenceIdeal
public import Idealize.ShloMosaic.Lib.StableHlo.RunLoop

@[expose] public section

set_option maxRecDepth 65536
set_option maxHeartbeats 4000000

noncomputable section

namespace Cert.ReferenceIdeal.Hand

open Cert.ReferenceIdeal Cert.ReferenceIdeal.Gen
open Idealize.ShloMosaic Idealize.ShloMosaic.TcCoe
open Idealize.SL.Sem
open Idealize.ShloMosaic.StableHlo

variable {F : FTy → Type} [FloatOps F]

/-- A host program of this module. -/
abbrev Host (F : FTy → Type) [FloatOps F] : Type 1 :=
  Prog (TpuEff nD τ sig (Elt F) (HostLoop.Sig (Pipeline.Sig Λ₀ (Fin 0) fun p => (pcfgs (F := F) p).Adm) 1) .tc) PUnit

/-! ## The operations of a straight host program, read off the program -/

/-- An operation over TensorCore buffers that determines everything it writes. -/
def Clean (op : HloOp τ sig (Elt F)) : Prop := op.bufs ⊆ tcRefs τ sig ∧ op.fresh = ∅

/-- The program `p` runs the operations `ops` and then `q`. -/
def Leads (p : Host F) (ops : List (HloOp τ sig (Elt F))) (q : Host F) : Prop :=
  p = (seq ops >>= fun _ => q) ∧ ∀ op ∈ ops, Clean op

theorem Leads.of_eq {p q : Host F} (h : p = q) : Leads p [] q := ⟨h, fun _ h => nomatch h⟩

theorem Leads.nil (q : Host F) : Leads q [] q := ⟨rfl, fun _ h => nomatch h⟩

/-- One operation as a program. -/
abbrev one (op : HloOp τ sig (Elt F)) : Host F := hlo rfl op fun _ => .ret ⟨⟩

theorem Leads.last {op : HloOp τ sig (Elt F)} (h : Clean op) : Leads (one op) [op] (pure ⟨⟩) :=
  ⟨rfl, fun o ho => by
    cases ho with
    | head => exact h
    | tail _ h => exact nomatch h⟩

theorem Leads.cons {op : HloOp τ sig (Elt F)} {p q : Host F} {ops : List (HloOp τ sig (Elt F))}
    (h : Clean op) (hp : Leads p ops q) : Leads (one op >>= fun _ => p) (op :: ops) q :=
  ⟨by rw [seq, bind_assoc, ← hp.1], fun o ho => by
    cases ho with
    | head => exact h
    | tail _ ho => exact hp.2 o ho⟩

theorem Leads.call {r p q : Host F} {a ops : List (HloOp τ sig (Elt F))}
    (hr : Leads r a (pure ⟨⟩)) (hp : Leads p ops q) : Leads (r >>= fun _ => p) (a ++ ops) q :=
  ⟨by rw [hr.1, hp.1, seq_append]; simp only [bind_assoc, pure_bind], fun o ho =>
    (List.mem_append.mp ho).elim (hr.2 o) (hp.2 o)⟩

theorem clean_nullary (y : Ref sig .tc) (v : y.ty.Contents (Elt F)) (hy) : Clean (nullary (τ := τ) y v hy) := ⟨nullary_bufs_sub .., rfl⟩
theorem clean_unary (x y : Ref sig .tc) (f : x.ty.Contents (Elt F) → y.ty.Contents (Elt F)) (hx hy) : Clean (unary (τ := τ) x y f hx hy) := ⟨unary_bufs_sub .., rfl⟩
theorem clean_binary (a b y : Ref sig .tc) (f : a.ty.Contents (Elt F) → b.ty.Contents (Elt F) → y.ty.Contents (Elt F)) (ha hb hy) :
    Clean (binary (τ := τ) a b y f ha hb hy) := ⟨binary_bufs_sub .., rfl⟩
theorem clean_ternary (c a b y : Ref sig .tc) (f : c.ty.Contents (Elt F) → a.ty.Contents (Elt F) → b.ty.Contents (Elt F) → y.ty.Contents (Elt F)) (hc ha hb hy) :
    Clean (ternary (τ := τ) c a b y f hc ha hb hy) := ⟨ternary_bufs_sub .., rfl⟩
theorem clean_quaternary (a b c e y : Ref sig .tc) (f : a.ty.Contents (Elt F) → b.ty.Contents (Elt F) → c.ty.Contents (Elt F) → e.ty.Contents (Elt F) → y.ty.Contents (Elt F)) (ha hb hc he hy) :
    Clean (quaternary (τ := τ) a b c e y f ha hb hc he hy) := ⟨quaternary_bufs_sub .., rfl⟩
theorem clean_reshape (x y : Ref sig .tc) (he hn hx hy) : Clean (F := F) (reshape (τ := τ) x y he hn hx hy) := ⟨reshape_bufs_sub .., rfl⟩

/-- The operations of the seed's permutation of the rows. -/
def shuffle : {ops : List (HloOp τ sig (Elt F)) // Leads (fn_shuffle.body (.of main_v7) (.of main_v8) main_call0) ops (pure ⟨⟩)} := by
  apply Subtype.mk
  repeat' (first
    | with_reducible exact clean_unary ..
    | with_reducible exact clean_binary ..
    | with_reducible exact clean_nullary ..
    | with_reducible exact clean_ternary ..
    | with_reducible exact clean_quaternary ..
    | with_reducible exact clean_reshape ..
    | with_reducible apply Leads.cons
    | with_reducible apply Leads.last
    | with_reducible exact Leads.nil _
    | with_reducible apply Leads.call
    | unfold fn_threefry2x32.body
    | unfold fn_threefry2x32.body_part0
    | unfold fn_threefry2x32.body_part1
    | unfold fn_threefry2x32.body_part2
    | unfold fn_threefry2x32.body_part3
    | unfold fn_threefry_split.body
    | unfold fn_threefry2x32_0.body
    | unfold fn_threefry2x32_0.body_part0
    | unfold fn_threefry2x32_0.body_part1
    | unfold fn_threefry2x32_0.body_part2
    | unfold fn_threefry2x32_0.body_part3
    | unfold fn_threefry_split_1.body
    | unfold fn_shuffle.body)

/-- The operations of the loop's body. -/
def body : {ops : List (HloOp τ sig (Elt F)) // Leads main_while0_body ops (pure ⟨⟩)} := by
  apply Subtype.mk
  repeat' (first
    | with_reducible exact clean_unary ..
    | with_reducible exact clean_binary ..
    | with_reducible exact clean_nullary ..
    | with_reducible exact clean_ternary ..
    | with_reducible exact clean_quaternary ..
    | with_reducible exact clean_reshape ..
    | with_reducible apply Leads.cons
    | with_reducible apply Leads.last
    | with_reducible exact Leads.nil _
    | with_reducible apply Leads.call
    | unfold main_while0_body
    | unfold main_while0_body_part0
    | unfold main_while0_body_part1
    | unfold fn_argmax.body
    | unfold fn_clip.body
    | unfold fn_where.body
    | unfold fn_where_2.body)

/-- The program after the loop, -/
def tailProg : Host F := do
  one (StableHlo.reshape main_v19_4 main_v20 (rfl : (.i32 : EltTy) = .i32) shapeCasts_S8192_S8x1024)
  fn_take.body (.of main_v19_3) (.of main_v20) main_call5
  pure ⟨⟩

/-- and its operations. -/
def tail : {ops : List (HloOp τ sig (Elt F)) // Leads tailProg ops (pure ⟨⟩)} := by
  apply Subtype.mk
  unfold tailProg
  repeat' (first
    | with_reducible exact clean_unary ..
    | with_reducible exact clean_binary ..
    | with_reducible exact clean_nullary ..
    | with_reducible exact clean_ternary ..
    | with_reducible exact clean_quaternary ..
    | with_reducible exact clean_reshape ..
    | with_reducible apply Leads.cons
    | with_reducible apply Leads.last
    | with_reducible exact Leads.nil _
    | with_reducible apply Leads.call
    | unfold fn_take.body
    | unfold fn_where_3.body)

/-- The loop's entry: its five carried values. -/
def entry : List (HloOp τ sig (Elt F)) :=
  [StableHlo.nullary main_c_4 (constantI S_ 32 0#32),
   StableHlo.unary main_c_4 main_v18 (broadcastInDim S8192 ![] bcast_S_S8192 : (⟨S_, .i32⟩ : BufTy).Contents (Elt F) → (⟨S8192, .i32⟩ : BufTy).Contents (Elt F)),
   StableHlo.nullary main_c_5 (constantI S_ 32 0#32),
   StableHlo.nullary main_c_6 (constantI S_ 32 0#32),
   StableHlo.unary main_v0 main_v19_0 id,
   StableHlo.unary main_c_6 main_v19_1 id,
   StableHlo.unary main_c_5 main_v19_2 id,
   StableHlo.unary main_v17 main_v19_3 id,
   StableHlo.unary main_v18 main_v19_4 id]

theorem entry_clean : ∀ op ∈ entry (F := F), Clean op := by
  unfold entry
  simp only [List.forall_mem_cons, List.not_mem_nil, false_imp_iff, implies_true, and_true]
  exact ⟨clean_nullary .., clean_unary .., clean_nullary .., clean_nullary .., clean_unary .., clean_unary .., clean_unary .., clean_unary .., clean_unary ..⟩

/-- The rows picked from the permutation: the initial means. -/
def picks : List (HloOp τ sig (Elt F)) :=
  [StableHlo.unary main_v9 main_v10 ((extractStridedSlice S300 ![0] · slices_S8192_S300_0) : (⟨S8192, .i32⟩ : BufTy).Contents (Elt F) → (⟨S300, .i32⟩ : BufTy).Contents (Elt F)),
   StableHlo.nullary main_c_2 (constantI S_ 32 0#32),
   StableHlo.unary main_c_2 main_v11 (broadcastInDim S300 ![] bcast_S_S300 : (⟨S_, .i32⟩ : BufTy).Contents (Elt F) → (⟨S300, .i32⟩ : BufTy).Contents (Elt F)),
   StableHlo.binary main_v10 main_v11 main_v12 (cmpi .slt : (⟨S300, .i32⟩ : BufTy).Contents (Elt F) → (⟨S300, .i32⟩ : BufTy).Contents (Elt F) → (⟨S300, .i1⟩ : BufTy).Contents (Elt F)),
   StableHlo.nullary main_c_3 (constantI S_ 32 8192#32),
   StableHlo.unary main_c_3 main_v13 (broadcastInDim S300 ![] bcast_S_S300 : (⟨S_, .i32⟩ : BufTy).Contents (Elt F) → (⟨S300, .i32⟩ : BufTy).Contents (Elt F)),
   StableHlo.binary main_v10 main_v13 main_v14 (addi : (⟨S300, .i32⟩ : BufTy).Contents (Elt F) → (⟨S300, .i32⟩ : BufTy).Contents (Elt F) → (⟨S300, .i32⟩ : BufTy).Contents (Elt F)),
   StableHlo.ternary main_v12 main_v14 main_v10 main_v15 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
   StableHlo.unary main_v15 main_v16 (broadcastInDim S300x1 ![0] bcast_S300_S300x1_0 : (⟨S300, .i32⟩ : BufTy).Contents (Elt F) → (⟨S300x1, .i32⟩ : BufTy).Contents (Elt F)),
   StableHlo.binary main_v0 main_v16 main_v17 ((fun x i => Host.gather gather_S8192x128_S300x1_S300x128_1_0_n_n_0_1_1128 x i) : (⟨S8192x128, .f32⟩ : BufTy).Contents (Elt F) → (⟨S300x1, .i32⟩ : BufTy).Contents (Elt F) → (⟨S300x128, .f32⟩ : BufTy).Contents (Elt F))]

theorem picks_clean : ∀ op ∈ picks (F := F), Clean op := by
  unfold picks
  simp only [List.forall_mem_cons, List.not_mem_nil, false_imp_iff, implies_true, and_true]
  exact ⟨clean_unary .., clean_nullary .., clean_unary .., clean_binary .., clean_nullary .., clean_unary .., clean_binary .., clean_ternary .., clean_unary .., clean_binary ..⟩

/-- The operations before the loop's entry. -/
def prelude (c : Dev nD) : {ops : List (HloOp τ sig (Elt F)) // Leads (main c) ops (seq entry >>= fun _ => HostLoop.enter 0 >>= fun _ => tailProg)} := by
  apply Subtype.mk
  unfold main
  iterate 12 (with_reducible apply Leads.cons; rotate_left)
  with_reducible apply Leads.call
  exact shuffle.2
  exact ⟨by unfold picks entry tailProg; simp only [seq, bind_assoc, pure_bind], picks_clean⟩
  all_goals first
    | with_reducible exact clean_unary ..
    | with_reducible exact clean_binary ..
    | with_reducible exact clean_nullary ..
    | with_reducible exact clean_ternary ..
    | with_reducible exact clean_reshape ..

end Cert.ReferenceIdeal.Hand
end
-- ==== Proof.RefRun.lean ====
module
public import proofs.«01_k».proof.Proof.RefOps
public import Idealize.ShloMosaic.Lib.Claim
public import Idealize.ShloMosaic.Lib.Quiescent

@[expose] public section

set_option maxRecDepth 65536
set_option maxHeartbeats 4000000

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (sub_ucRefs ucRefs)

variable {F : FTy → Type} [FloatOps F]

/-- The loop condition's operations. -/
def condOps : List (HloOp τ sig (Elt F)) :=
  [ StableHlo.nullary main_while0c_c_11 (constantI S_ 32 10#32),
    StableHlo.binary main_v19_1 main_while0c_c_11 main_while0c_v22 (cmpi .slt) ]

theorem condOps_keep (V : Valuation τ sig (Elt F)) (r : Ref sig .tc) (h : r ≠ main_while0c_c_11) (h' : r ≠ main_while0c_v22) :
    after condOps V r = V r := by
  rw [condOps, after_cons, after_cons, after_nil, binary_result_ne _ _ _ _ _ _ _ _ h', nullary_result_ne _ _ _ _ h]

/-- One trip adds one to the counter. -/
theorem body_ctr (V : Valuation τ sig (Elt F)) :
    after body.1 V main_v19_1 = addi (V main_v19_1) (constantI S_ 32 1#32) := by
  simp only [body, List.cons_append, List.nil_append]
  after_results_simp
  rfl

/-- The lists the run goes through: before the loop, -/
def preI : List (List (HloOp τ sig (Elt F))) := [(prelude 0).1, entry]

theorem entry_ctr (V : Valuation τ sig (Elt F)) : after entry V main_v19_1 = constantI S_ 32 0#32 := by
  simp only [entry]
  after_results_simp
  rfl

theorem plain_of {a : List (HloOp τ sig (Elt F))} (h : ∀ op ∈ a, Clean op) {rest : List (List (HloOp τ sig (Elt F)))} (hr : Plain rest) :
    Plain (a :: rest) := by
  intro ops ho
  cases ho with
  | head => exact ⟨fun op h' => (h op h').1, fun op h' => (h op h').2⟩
  | tail _ ho => exact hr ops ho

variable (m : (ℓ : Loc nD τ sig) → Buf (Elt F) ℓ) (ρ : Dev nD → PrngReg)

/-- Every buffer before the `k`-th run of the condition. -/
abbrev trip (k : ℕ) (c : Dev nD) : Valuation τ sig (Elt F) := atTrip condOps [body.1] (entryContents preI m) k c

theorem trip_ctr (c : Dev nD) : ∀ k, trip m k c main_v19_1 = fun _ => (BitVec.ofNat 32 k : BitVec 32)
  | 0 => (entry_ctr (after (prelude 0).1 (launchContents m c))).trans rfl
  | k + 1 => by
    show after body.1 (after condOps (trip m k c)) main_v19_1 = _
    rw [body_ctr, condOps_keep _ _ (by decide) (by decide), trip_ctr c k]
    funext i
    show BitVec.ofNat 32 k + 1#32 = BitVec.ofNat 32 (k + 1)
    rw [BitVec.ofNat_add]

theorem pred_iff (k : ℕ) (hk : k ≤ 10) : IntOp.cmpi .slt (BitVec.ofNat 32 k) 10#32 = 1#1 ↔ k < 10 := by
  revert k
  decide

set_option backward.isDefEq.respectTransparency.types false in
theorem cond_spec : CondSpec (pcfgs (F := F)) defs₀ loops main_while0_cond condOps [body.1] (entryContents preI m) 10 := by
  intro k hk c bd
  have hctr := trip_ctr m c k
  unfold main_while0_cond
  rw [wp_bind]
  iintro ⟨Hb, Hh⟩
  iapply (StableHlo.wp_hlo_within (Variants.lift _) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift _) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v19_1 HostLoop.idx0)
        (HloOp.result _ (trip m k c) main_while0c_c_11 HostLoop.idx0) = 1#1) (k < 10)
    rw [StableHlo.nullary_result_ne _ _ _ _ (by decide), StableHlo.nullary_result, hctr]
    exact pred_iff k hk
  isplitl [Hb]; · iexact Hb
  unfold condOps; rw [StableHlo.after_cons, StableHlo.after_cons, StableHlo.after_nil]; iexact Hh

theorem main_eq (c : Dev nD) : main (F := F) c = Pipeline.chain ((preI.map fun ops => (seq ops : Prog _ PUnit)) ++ HostLoop.enter 0 :: [tail.1].map fun ops => (seq ops : Prog _ PUnit)) := by
  have h : c = 0 := Subsingleton.elim _ _
  subst h
  refine (prelude 0).2.1.trans ?_
  simp only [preI, List.map, List.cons_append, List.nil_append, Pipeline.chain_cons, Pipeline.chain_nil]
  exact congrArg (fun q : Host F => seq (prelude 0).1 >>= fun _ => seq entry >>= fun _ => HostLoop.enter 0 >>= fun _ => q) tail.2.1

theorem body_eq : main_while0_body (F := F) = Pipeline.chain ([body.1].map fun ops => (seq ops : Prog _ PUnit)) := by
  exact body.2.1

/-- What the reference leaves in every buffer. -/
theorem run_main : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = after tail.1 (after condOps (trip m 10 c)) (Proc.devRef .tc b)) :=
  run_loop pcfgs defs₀ loops main 0 main_while0_cond main_while0_body rfl preI [body.1] [tail.1] condOps
    (plain_of (prelude 0).2.2 (plain_of entry_clean Plain.nil)) (plain_of body.2.2 Plain.nil) (plain_of tail.2.2 Plain.nil)
    main_eq body_eq 10 m ρ (cond_spec m)

/-! ## The argument is left alone, and no semaphore exists -/

theorem body_arg (V : Valuation τ sig (Elt F)) : after body.1 V main_arg0 = V main_arg0 := by
  simp only [body, List.cons_append, List.nil_append]
  after_results_simp

theorem tail_arg (V : Valuation τ sig (Elt F)) : after tail.1 V main_arg0 = V main_arg0 := by
  simp only [tail, List.cons_append, List.nil_append]
  after_results_simp

theorem entry_arg (V : Valuation τ sig (Elt F)) : after entry V main_arg0 = V main_arg0 := by
  simp only [entry]
  after_results_simp

theorem prelude_arg (V : Valuation τ sig (Elt F)) : after (prelude 0).1 V main_arg0 = V main_arg0 := by
  simp only [prelude, shuffle, picks, List.cons_append, List.nil_append]
  after_results_simp

theorem trip_arg (c : Dev nD) : ∀ k, trip m k c main_arg0 = m ((c.tc : Thread nD τ).loc main_arg0)
  | 0 => (entry_arg (after (prelude 0).1 (launchContents m c))).trans (prelude_arg _)
  | k + 1 => ((body_arg (after condOps (trip m k c))).trans (condOps_keep _ _ (by decide) (by decide))).trans (trip_arg c k)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c main_arg0 rfl).trans
      ((tail_arg _).trans ((condOps_keep _ _ (by decide) (by decide)).trans (trip_arg m c 10))),
    sem_eq_zero_of_no_sems rfl _⟩) (run_main m ρ)

end Cert.ReferenceIdeal.Hand
end
-- ==== Proof.Twins.lean ====
module
public import proofs.«01_k».proof.Proof.FrameI
public import proofs.«01_k».proof.Proof.RefRun

@[expose] public section

set_option maxRecDepth 65536
set_option maxHeartbeats 4000000

noncomputable section

namespace Cert.Twins

open Idealize.ShloMosaic Idealize.ShloMosaic.TcCoe
open Idealize.ShloMosaic.StableHlo

variable {τ τ' : Topo} {σ σ' : RefSig} {Val : EltTy → Type}

/-! ## Two programs whose buffers have the same places -/

/-- Two references to the same place of device memory. -/
structure Twin (r : Ref σ .tc) (r' : Ref σ' .tc) : Prop where
  left : r.space = .hbm
  right : r'.space = .hbm
  idx : r.idx.val = r'.idx.val

theorem Twin.eq_left {r s : Ref σ .tc} {r' s' : Ref σ' .tc} (h : Twin r r') (k : Twin s s') (e : r.idx.val = s.idx.val) : r = s := by
  obtain ⟨sp, i, hi⟩ := r
  obtain ⟨sp2, j, hj⟩ := s
  cases h.left
  cases k.left
  cases Fin.ext (show i.val = j.val from e)
  rfl

theorem Twin.symm {r : Ref σ .tc} {r' : Ref σ' .tc} (h : Twin r r') : Twin r' r := ⟨h.right, h.left, h.idx.symm⟩

/-- The first `n` places hold the same contents. -/
def Sim (n : ℕ) (V : Valuation τ σ Val) (V' : Valuation τ' σ' Val) : Prop :=
  ∀ (r : Ref σ .tc) (r' : Ref σ' .tc), Twin r r' → r.idx.val < n → HEq (V (Proc.devRef .tc r)) (V' (Proc.devRef .tc r'))

/-- Run side by side, the two lists take agreement on `n` places to agreement on `N`. -/
def Steps (n : ℕ) (l : List (HloOp τ σ Val)) (l' : List (HloOp τ' σ' Val)) (N : ℕ) : Prop :=
  ∀ V V', Sim n V V' → Sim N (after l V) (after l' V')

theorem Steps.done {n N : ℕ} (h : n = N) : Steps n ([] : List (HloOp τ σ Val)) ([] : List (HloOp τ' σ' Val)) N := by
  subst h
  exact fun _ _ s => s

theorem Steps.append {n k N : ℕ} {a b : List (HloOp τ σ Val)} {a' b' : List (HloOp τ' σ' Val)} (h : Steps n a a' k) (g : Steps k b b' N) :
    Steps n (a ++ b) (a' ++ b') N := fun V V' s => by
  rw [after_append, after_append]
  exact g _ _ (h _ _ s)

theorem Steps.cons {n N : ℕ} {op : HloOp τ σ Val} {op' : HloOp τ' σ' Val} {l : List (HloOp τ σ Val)} {l' : List (HloOp τ' σ' Val)}
    {y : Ref σ .tc} {y' : Ref σ' .tc} (ty : Twin y y') (hn : y.idx.val = n)
    (hw : op.writes = {Proc.devRef .tc y}) (hw' : op'.writes = {Proc.devRef .tc y'})
    (hv : ∀ V V', Sim n V V' → HEq (op.result V (Proc.devRef .tc y)) (op'.result V' (Proc.devRef .tc y')))
    (rest : Steps (y.idx.val + 1) l l' N) : Steps n (op :: l) (op' :: l') N := fun V V' s => by
  rw [after_cons, after_cons]
  refine rest _ _ fun r r' t hr => ?_
  by_cases e : r.idx.val = y.idx.val
  · cases t.eq_left ty e
    cases t.symm.eq_left ty.symm (t.idx.symm.trans (e.trans ty.idx))
    exact hv V V' s
  · have h1 : r ≠ y := fun h => e (by rw [h])
    have h2 : r' ≠ y' := fun h => e (t.idx.trans ((by rw [h] : r'.idx.val = y'.idx.val).trans ty.idx.symm))
    rw [HloOp.result_of_not_mem _ _ (by rw [hw, Finset.mem_singleton]; exact devRef_ne_of_ne h1),
      HloOp.result_of_not_mem _ _ (by rw [hw', Finset.mem_singleton]; exact devRef_ne_of_ne h2)]
    exact s r r' t (by omega)

/-- An operation of the first program alone, beyond the places in question. -/
theorem Steps.skip {n N : ℕ} {op : HloOp τ σ Val} {l : List (HloOp τ σ Val)} {y : Ref σ .tc} (hw : op.writes = {Proc.devRef .tc y})
    (hn : n ≤ y.idx.val) (rest : Steps n l ([] : List (HloOp τ' σ' Val)) N) : Steps n (op :: l) ([] : List (HloOp τ' σ' Val)) N := fun V V' s => by
  rw [after_cons]
  refine rest _ V' fun r r' t hr => ?_
  have h1 : r ≠ y := fun h => by rw [h] at hr; omega
  rw [HloOp.result_of_not_mem _ _ (by rw [hw, Finset.mem_singleton]; exact devRef_ne_of_ne h1)]
  exact s r r' t hr

/-! ## The builders, over references -/

section Plain

variable {x a b y : Ref σ .tc} {x' a' b' y' : Ref σ' .tc} {n N : ℕ} {l : List (HloOp τ σ Val)} {l' : List (HloOp τ' σ' Val)}

theorem Steps.nullary {v : y.ty.Contents Val} {v' : y'.ty.Contents Val} {hy hy'} (ty : Twin y y') (hn : y.idx.val = n) (hv : HEq v v')
    (rest : Steps (y.idx.val + 1) l l' N) : Steps n (nullary y v hy :: l) (nullary y' v' hy' :: l') N :=
  Steps.cons ty hn rfl rfl (fun V V' _ => by rw [nullary_result, nullary_result]; exact hv) rest

theorem Steps.unary {f : x.ty.Contents Val → y.ty.Contents Val} {f' : x'.ty.Contents Val → y'.ty.Contents Val} {hx hy hx' hy'}
    (ty : Twin y y') (hn : y.idx.val = n) (tx : Twin x x') (hx1 : x.idx.val < n) (hf : ∀ u u', HEq u u' → HEq (f u) (f' u'))
    (rest : Steps (y.idx.val + 1) l l' N) : Steps n (unary x y f hx hy :: l) (unary x' y' f' hx' hy' :: l') N :=
  Steps.cons ty hn rfl rfl (fun V V' s => by rw [unary_result, unary_result]; exact hf _ _ (s _ _ tx hx1)) rest

theorem Steps.binary {f : a.ty.Contents Val → b.ty.Contents Val → y.ty.Contents Val} {f' : a'.ty.Contents Val → b'.ty.Contents Val → y'.ty.Contents Val}
    {ha hb hy ha' hb' hy'} (ty : Twin y y') (hn : y.idx.val = n) (ta : Twin a a') (ha1 : a.idx.val < n) (tb : Twin b b') (hb1 : b.idx.val < n)
    (hf : ∀ u u', HEq u u' → ∀ v v', HEq v v' → HEq (f u v) (f' u' v')) (rest : Steps (y.idx.val + 1) l l' N) :
    Steps n (binary a b y f ha hb hy :: l) (binary a' b' y' f' ha' hb' hy' :: l') N :=
  Steps.cons ty hn rfl rfl (fun V V' s => by rw [binary_result, binary_result]; exact hf _ _ (s _ _ ta ha1) _ _ (s _ _ tb hb1)) rest

theorem Steps.ternary {f : x.ty.Contents Val → a.ty.Contents Val → b.ty.Contents Val → y.ty.Contents Val}
    {f' : x'.ty.Contents Val → a'.ty.Contents Val → b'.ty.Contents Val → y'.ty.Contents Val}
    {hx ha hb hy hx' ha' hb' hy'} (ty : Twin y y') (hn : y.idx.val = n) (tx : Twin x x') (hx1 : x.idx.val < n) (ta : Twin a a') (ha1 : a.idx.val < n)
    (tb : Twin b b') (hb1 : b.idx.val < n)
    (hf : ∀ w w', HEq w w' → ∀ u u', HEq u u' → ∀ v v', HEq v v' → HEq (f w u v) (f' w' u' v')) (rest : Steps (y.idx.val + 1) l l' N) :
    Steps n (ternary x a b y f hx ha hb hy :: l) (ternary x' a' b' y' f' hx' ha' hb' hy' :: l') N :=
  Steps.cons ty hn rfl rfl (fun V V' s => by rw [ternary_result, ternary_result]; exact hf _ _ (s _ _ tx hx1) _ _ (s _ _ ta ha1) _ _ (s _ _ tb hb1)) rest

theorem cast_shape {X X' Y Y' : BufTy} (eX : X = X') (eY : Y = Y') (he : X.elt = Y.elt) (he' : X'.elt = Y'.elt) (hn : X.shape.ShapeCasts Y.shape)
    (hn' : X'.shape.ShapeCasts Y'.shape) (u : X.Contents Val) (u' : X'.Contents Val) (h : HEq u u') :
    HEq (fun i => he ▸ shapeCast Y.shape u hn i : Y.Contents Val) (fun i => he' ▸ shapeCast Y'.shape u' hn' i : Y'.Contents Val) := by
  subst eX eY
  cases h
  rfl

theorem Steps.reshape {he he' h h' hx hy hx' hy'} (ty : Twin y y') (hn : y.idx.val = n) (tx : Twin x x') (hx1 : x.idx.val < n)
    (eX : x.ty = x'.ty) (eY : y.ty = y'.ty) (rest : Steps (y.idx.val + 1) l l' N) :
    Steps n (reshape x y he h hx hy :: l) (reshape x' y' he' h' hx' hy' :: l') N :=
  Steps.cons ty hn rfl rfl (fun V V' s => by rw [reshape_result, reshape_result]; exact cast_shape eX eY _ _ _ _ _ _ (s _ _ tx hx1)) rest

end Plain

/-! ## The builders, over typed references -/

section Typed

variable {X A B Y : BufTy} {x : TRef σ X} {a : TRef σ A} {b : TRef σ B} {y : TRef σ Y}
  {x' : TRef σ' X} {a' : TRef σ' A} {b' : TRef σ' B} {y' : TRef σ' Y} {n N : ℕ} {l : List (HloOp τ σ Val)} {l' : List (HloOp τ' σ' Val)}

theorem toBuf_heq (v : Y.Contents Val) : HEq (y.toBuf v) (y'.toBuf v) := (cast_heq _ _).trans (cast_heq _ _).symm

theorem ofBuf_eq {u : x.ref.ty.Contents Val} {u' : x'.ref.ty.Contents Val} (h : HEq u u') : x.ofBuf u = x'.ofBuf u' :=
  eq_of_heq ((cast_heq _ _).trans (h.trans (cast_heq _ _).symm))

theorem Steps.tnullary {v v' : Y.Contents Val} (ty : Twin y.ref y'.ref) (hn : y.ref.idx.val = n) (hv : v = v')
    (rest : Steps (y.ref.idx.val + 1) l l' N) : Steps n (TRef.nullary y v :: l) (TRef.nullary y' v' :: l') N :=
  Steps.nullary ty hn (by subst hv; exact toBuf_heq v) rest

theorem Steps.tunary {f f' : X.Contents Val → Y.Contents Val} (ty : Twin y.ref y'.ref) (hn : y.ref.idx.val = n) (tx : Twin x.ref x'.ref)
    (hx1 : x.ref.idx.val < n) (hf : f = f') (rest : Steps (y.ref.idx.val + 1) l l' N) :
    Steps n (TRef.unary x y f :: l) (TRef.unary x' y' f' :: l') N :=
  Steps.unary ty hn tx hx1 (fun u u' h => by subst hf; rw [ofBuf_eq (x := x) (x' := x') h]; exact toBuf_heq _) rest

theorem Steps.tbinary {f f' : A.Contents Val → B.Contents Val → Y.Contents Val} (ty : Twin y.ref y'.ref) (hn : y.ref.idx.val = n)
    (ta : Twin a.ref a'.ref) (ha1 : a.ref.idx.val < n) (tb : Twin b.ref b'.ref) (hb1 : b.ref.idx.val < n) (hf : f = f')
    (rest : Steps (y.ref.idx.val + 1) l l' N) : Steps n (TRef.binary a b y f :: l) (TRef.binary a' b' y' f' :: l') N :=
  Steps.binary ty hn ta ha1 tb hb1
    (fun u u' h v v' k => by subst hf; rw [ofBuf_eq (x := a) (x' := a') h, ofBuf_eq (x := b) (x' := b') k]; exact toBuf_heq _) rest

theorem Steps.treshape {he he' h h'} (ty : Twin y.ref y'.ref) (hn : y.ref.idx.val = n) (tx : Twin x.ref x'.ref) (hx1 : x.ref.idx.val < n)
    (rest : Steps (y.ref.idx.val + 1) l l' N) :
    Steps n (TRef.reshape x y he h :: l) (TRef.reshape x' y' he' h' :: l') N :=
  Steps.reshape ty hn tx hx1 (x.ty_eq.trans x'.ty_eq.symm) (y.ty_eq.trans y'.ty_eq.symm) rest

end Typed

/-! ## The seed's permutation, in both programs -/

variable {F : FTy → Type} [FloatOps F]

set_option maxHeartbeats 40000000 in
theorem shuffle_steps :
    Steps 13 (Cert.KernelIdeal.Gen.hostOps0_1 (F := F)) (Cert.ReferenceIdeal.Hand.shuffle (F := F)).1 973 := by
  simp only [Cert.ReferenceIdeal.Hand.shuffle, List.cons_append, List.nil_append]
  repeat' (first
    | exact Twin.mk rfl rfl rfl
    | with_reducible apply Steps.tbinary
    | with_reducible apply Steps.tunary
    | with_reducible apply Steps.tnullary
    | with_reducible apply Steps.treshape
    | with_reducible exact Steps.done rfl
    | decide
    | rfl)

theorem heq1 {A A' B : Type} (e : A = A') {f : A → B} {f' : A' → B} (h : HEq f f') (u : A) (u' : A') (k : HEq u u') : HEq (f u) (f' u') := by
  subst e
  cases h
  cases k
  rfl

theorem heq2 {A A' B B' C : Type} (e : A = A') (e' : B = B') {f : A → B → C} {f' : A' → B' → C} (h : HEq f f') (u : A) (u' : A') (k : HEq u u')
    (v : B) (v' : B') (k' : HEq v v') : HEq (f u v) (f' u' v') := by
  subst e e'
  cases h
  cases k
  cases k'
  rfl

theorem heq3 {A A' B B' C C' D : Type} (e : A = A') (e' : B = B') (e'' : C = C') {f : A → B → C → D} {f' : A' → B' → C' → D} (h : HEq f f')
    (u : A) (u' : A') (k : HEq u u') (v : B) (v' : B') (k' : HEq v v') (w : C) (w' : C') (k'' : HEq w w') : HEq (f u v w) (f' u' v' w') := by
  subst e e' e''
  cases h
  cases k
  cases k'
  cases k''
  rfl

/-- The rows picked after the permutation; the kernel's program goes on with the squared norms. -/
theorem after_shuffle :
    Steps 973 (Cert.KernelIdeal.Gen.hostOps0_2 (F := F) ++ []) (Cert.ReferenceIdeal.Hand.picks (F := F)) 983 := by
  simp only [Cert.KernelIdeal.Gen.hostOps0_2, Cert.ReferenceIdeal.Hand.picks, List.append_nil]
  repeat' (first
    | exact Twin.mk rfl rfl rfl
    | with_reducible apply Steps.binary
    | with_reducible apply Steps.ternary
    | with_reducible apply Steps.unary
    | with_reducible apply Steps.nullary
    | with_reducible apply Steps.reshape
    | with_reducible exact Steps.done rfl
    | refine Steps.skip (n := _) rfl ?_ ?_
    | exact heq1 rfl HEq.rfl
    | exact heq2 rfl rfl HEq.rfl
    | exact heq3 rfl rfl rfl HEq.rfl
    | decide
    | rfl)

/-- Everything before the loop, resp. before the region. -/
theorem prefix_steps :
    Steps 1 (List.flatten [Cert.KernelIdeal.Gen.hostOps0 (F := F), Cert.KernelIdeal.Gen.hostOps0_1, Cert.KernelIdeal.Gen.hostOps0_2])
      (Cert.ReferenceIdeal.Hand.prelude (F := F) 0).1 983 := by
  show Steps 1 (Cert.KernelIdeal.Gen.hostOps0 (F := F) ++ (Cert.KernelIdeal.Gen.hostOps0_1 ++ (Cert.KernelIdeal.Gen.hostOps0_2 ++ []))) _ 983
  dsimp only [Cert.ReferenceIdeal.Hand.prelude]
  have hrest := Steps.append (shuffle_steps (F := F)) (after_shuffle (F := F))
  generalize Cert.KernelIdeal.Gen.hostOps0_1 (F := F) ++ (Cert.KernelIdeal.Gen.hostOps0_2 ++ []) = K at hrest ⊢
  generalize hL : Cert.ReferenceIdeal.Hand.shuffle (F := F).1 ++ _ = L at hrest ⊢
  simp only [Cert.KernelIdeal.Gen.hostOps0, List.cons_append, List.nil_append]
  repeat' (first
    | exact Twin.mk rfl rfl rfl
    | with_reducible apply Steps.binary
    | with_reducible apply Steps.ternary
    | with_reducible apply Steps.unary
    | with_reducible apply Steps.nullary
    | with_reducible apply Steps.reshape
    | with_reducible exact Steps.done rfl
    | exact hrest
    | exact heq1 rfl HEq.rfl
    | exact heq2 rfl rfl HEq.rfl
    | exact heq3 rfl rfl rfl HEq.rfl
    | decide
    | rfl)

end Cert.Twins
end
-- ==== Proof.Nearest.lean ====
/-
  The first place at which a row of distances is least, found in two ways: as the least of the numbers of the places
  whose distance equals the least distance, and as the place a left fold keeps that goes through the negated distances
  and holds on to the larger value, the earlier place on a tie.
-/
module

public import Idealize.ShloMosaic.PureOps.Ideal.Laws
public import Idealize.ShloMosaic.Lib.ValueIdx

@[expose] public section

noncomputable section

namespace Cert.Nearest

open Idealize.ShloMosaic

variable {n : Nat}

/-- `c` is the first place at which `f` is least. -/
def Least (f : Fin n → EReal) (c : Fin n) : Prop := (∀ d, f c ≤ f d) ∧ ∀ d, d < c → f c < f d

theorem exists_least (hn : 0 < n) (f : Fin n → EReal) : ∃ c, Least f c := by
  haveI : Nonempty (Fin n) := ⟨⟨0, hn⟩⟩
  obtain ⟨a, ha⟩ := Finite.exists_min f
  have hne : (Finset.univ.filter fun c => f c = f a).Nonempty := ⟨a, by simp⟩
  have hm := Finset.min'_mem _ hne
  generalize hc : Finset.min' _ hne = c at hm
  have hfc : f c = f a := (Finset.mem_filter.1 hm).2
  refine ⟨c, fun d => hfc ▸ ha d, fun d hd => lt_of_le_of_ne (hfc ▸ ha d) fun e => ?_⟩
  have := Finset.min'_le (Finset.univ.filter fun c => f c = f a) d (by simp [← e, hfc])
  rw [hc] at this
  exact absurd hd (not_lt.2 this)

theorem Least.unique {f : Fin n → EReal} {c d : Fin n} (hc : Least f c) (hd : Least f d) : c = d := by
  rcases lt_trichotomy c d with h | h | h
  · exact absurd (hc.1 d) (not_le.2 (hd.2 c h))
  · exact h
  · exact absurd (hd.1 c) (not_le.2 (hc.2 d h))

/-! ### The least number among the nearest -/

theorem toInt_minsi (x y : BitVec 32) : (IntOp.minsi x y).toInt = min x.toInt y.toInt := by
  unfold IntOp.minsi
  split <;> rename_i h <;> rw [BitVec.slt_iff_toInt_lt] at h <;> omega

/-- A fold of signed minima is the least value met, when the start is no smaller. -/
theorem fold_minsi {ι : Type} (S : Finset ι) (g : ι → BitVec 32) (z a : BitVec 32) (hz : a.toInt ≤ z.toInt)
    (hg : ∀ i ∈ S, a.toInt ≤ (g i).toInt) (c : ι) (hc : c ∈ S) (hca : g c = a) : S.fold IntOp.minsi z g = a := by
  have key : ∀ T : Finset ι, T ⊆ S → a.toInt ≤ (T.fold IntOp.minsi z g).toInt ∧ (c ∈ T → (T.fold IntOp.minsi z g).toInt ≤ a.toInt) := by
    intro T
    induction T using Finset.cons_induction with
    | empty => intro _; exact ⟨hz, fun h => absurd h (Finset.notMem_empty _)⟩
    | cons i T hi ih =>
      intro hT
      have h1 := ih fun x hx => hT (Finset.mem_cons_of_mem hx)
      have h2 := hg i (hT (Finset.mem_cons_self i T))
      rw [Finset.fold_cons, toInt_minsi]
      refine ⟨le_min h2 h1.1, fun hm => ?_⟩
      rcases Finset.mem_cons.1 hm with e | e
      · exact (min_le_left _ _).trans (by rw [← e, hca])
      · exact (min_le_right _ _).trans (h1.2 e)
  have h := key S (Finset.Subset.refl S)
  exact BitVec.eq_of_toInt_eq (le_antisymm (h.2 hc) h.1)

/-- A fold of minima from the top is the value at a least place. -/
theorem fold_min {f : Fin n → EReal} {c : Fin n} (h : ∀ d, f c ≤ f d) : (Finset.univ : Finset (Fin n)).fold min ⊤ f = f c :=
  le_antisymm ((Finset.fold_min_le _).2 (Or.inr ⟨c, Finset.mem_univ c, le_rfl⟩)) (Finset.le_fold_min _ |>.2 ⟨le_top, fun d _ => h d⟩)

theorem toInt_ofNat_small {k : Nat} (h : k < 2 ^ 31) : (BitVec.ofNat 32 k).toInt = k := by
  have hm : k % 2 ^ 32 = k := Nat.mod_eq_of_lt (by omega)
  rw [BitVec.toInt_eq_toNat_of_lt (by rw [BitVec.toNat_ofNat, hm]; omega), BitVec.toNat_ofNat, hm]

/-- The least of the numbers of the nearest places, `300` standing in for every other place. -/
theorem least_number {f : Fin 300 → EReal} {c : Fin 300} (h : Least f c) (g : Fin 300 → BitVec 32)
    (hg : ∀ d, g d = if f d = f c then BitVec.ofNat 32 d.val else 300#32) :
    (Finset.univ : Finset (Fin 300)).fold IntOp.minsi 2147483647#32 g = BitVec.ofNat 32 c.val := by
  have hci := toInt_ofNat_small (k := c.val) (by omega)
  refine fold_minsi _ g _ _ ?_ (fun d _ => ?_) c (Finset.mem_univ c) (by rw [hg, if_pos rfl])
  · rw [hci]
    have : (2147483647#32 : BitVec 32).toInt = 2147483647 := by decide
    omega
  · rw [hg, hci]
    split
    · next e =>
      rw [toInt_ofNat_small (by omega)]
      have : ¬ d < c := fun hd => absurd e (h.2 d hd).ne'
      have := not_lt.1 this
      exact_mod_cast this
    · have : (300#32 : BitVec 32).toInt = 300 := by decide
      omega

/-! ### The place a fold keeps -/

/-- `p` beats `q`: a larger value, or the same value at an earlier place. -/
def Beats (p q : EReal × BitVec 32) : Prop := q.1 < p.1 ∨ q.1 = p.1 ∧ p.2.toInt < q.2.toInt

/-- A step keeps its left pair when that one beats the right one, else the right one. -/
def Keeps (r : EReal × BitVec 32 → EReal × BitVec 32 → EReal × BitVec 32) : Prop :=
  ∀ p q, (Beats p q → r p q = p) ∧ (¬ Beats p q → r p q = q)

theorem not_beats_self (p : EReal × BitVec 32) : ¬ Beats p p := by
  rintro (h | ⟨_, h⟩)
  · exact lt_irrefl _ h
  · exact lt_irrefl _ h

theorem Beats.asymm {p q : EReal × BitVec 32} (h : Beats p q) : ¬ Beats q p := by
  rcases h with h | ⟨h, h'⟩
  · rintro (k | ⟨k, _⟩)
    · exact lt_asymm h k
    · exact h.ne k.symm
  · rintro (k | ⟨_, k⟩)
    · exact k.ne h.symm
    · exact lt_asymm h' k

theorem foldl_keeps {r : EReal × BitVec 32 → EReal × BitVec 32 → EReal × BitVec 32} (hr : Keeps r) (p : EReal × BitVec 32) :
    ∀ (l : List (EReal × BitVec 32)) (z : EReal × BitVec 32), (∀ q ∈ l, q = p ∨ Beats p q) → (z = p ∨ Beats p z)
      → (p ∈ l ∨ z = p) → l.foldl r z = p
  | [], z, _, _, h => by
    rcases h with h | h
    · exact absurd h List.not_mem_nil
    · exact h
  | q :: l, z, hl, hz, h => by
    have hq := hl q List.mem_cons_self
    have hstep : r z q = p ∨ Beats p (r z q) ∧ p ≠ q ∧ z ≠ p := by
      by_cases hzq : Beats z q
      · rw [(hr z q).1 hzq]
        rcases hz with e | e
        · exact .inl e
        · by_cases e' : z = p
          · exact .inl e'
          · refine .inr ⟨e, ?_, e'⟩
            rintro rfl
            exact e.asymm hzq
      · rw [(hr z q).2 hzq]
        rcases hq with e | e
        · exact .inl e
        · by_cases e' : q = p
          · exact .inl e'
          · refine .inr ⟨e, fun h => e' h.symm, ?_⟩
            rintro rfl
            exact hzq e
    rw [List.foldl_cons]
    rcases hstep with e | ⟨e, hne, hzp⟩
    · exact foldl_keeps hr p l _ (fun q' h' => hl q' (List.mem_cons_of_mem q h')) (.inl e) (.inr e)
    · refine foldl_keeps hr p l _ (fun q' h' => hl q' (List.mem_cons_of_mem q h')) (.inr e) (.inl ?_)
      rcases h with h | h
      · rcases List.mem_cons.1 h with h | h
        · exact absurd h hne
        · exact h
      · exact absurd h hzp

/-- Going through the negated distances from minus infinity at place 0, the fold ends at the first nearest place. -/
theorem fold_place {r : EReal × BitVec 32 → EReal × BitVec 32 → EReal × BitVec 32} (hr : Keeps r)
    {f : Fin 300 → EReal} {c : Fin 300} (h : Least f c) (hc : f c ≠ ⊤) (l : List (EReal × BitVec 32))
    (hl : ∀ q, q ∈ l ↔ ∃ d, q = (-(f d), BitVec.ofNat 32 d.val)) : (l.foldl r (⊥, 0#32)).2 = BitVec.ofNat 32 c.val := by
  rw [foldl_keeps hr (-(f c), BitVec.ofNat 32 c.val) l]
  · intro q hq
    obtain ⟨d, rfl⟩ := (hl q).1 hq
    rcases lt_trichotomy d c with hd | rfl | hd
    · exact .inr (.inl (EReal.neg_lt_neg_iff.2 (h.2 d hd)))
    · exact .inl rfl
    · right
      rcases (h.1 d).lt_or_eq with e | e
      · exact .inl (EReal.neg_lt_neg_iff.2 e)
      · refine .inr ⟨by rw [e], ?_⟩
        show (BitVec.ofNat 32 c.val).toInt < (BitVec.ofNat 32 d.val).toInt
        rw [toInt_ofNat_small (by omega), toInt_ofNat_small (by omega)]
        exact_mod_cast hd
  · right; left
    exact bot_lt_iff_ne_bot.2 fun e => hc (by simpa using congrArg Neg.neg e)
  · exact .inl ((hl _).2 ⟨c, rfl⟩)

end Cert.Nearest
-- ==== Proof.Spec.lean ====
/-
  The clustering over the real numbers: the distances of the rows to the means, the first nearest mean of each row, the
  sums and the numbers of the rows of each cluster, and the means after one iteration. A table of extended reals is read
  as a table of real numbers by `Is`.
-/
module

public import proofs.«01_k».proof.Proof.Nearest
public import Idealize.ShloMosaic.Lib.Pointwise

@[expose] public section

noncomputable section

namespace Cert.Spec

open Idealize.ShloMosaic Cert.Nearest

/-- The table holds the real numbers `X`. -/
def Is {a b : ℕ} (x : (⟨2, ![a, b]⟩ : Shape).Idx → EReal) (X : Fin a → Fin b → ℝ) : Prop := ∀ i l, x (ix2 i l) = ((X i l : ℝ) : EReal)

theorem Is.ext {a b : ℕ} {x y : (⟨2, ![a, b]⟩ : Shape).Idx → EReal} {X : Fin a → Fin b → ℝ} (hx : Is x X) (hy : Is y X) : x = y := by
  funext j
  rw [eq_ix2 j]
  exact (hx _ _).trans (hy _ _).symm

variable (X : Fin 8192 → Fin 128 → ℝ) (M : Fin 300 → Fin 128 → ℝ)

/-- The squared length of a row. -/
def norm (i : Fin 8192) : ℝ := ∑ l, X i l * X i l

/-- The squared distance of a row to a mean. -/
def dist (i : Fin 8192) (c : Fin 300) : ℝ := norm X i - 2 * (∑ l, X i l * M c l) + ∑ l, M c l * M c l

/-- The distances of a row to the means as extended reals. -/
def far (i : Fin 8192) (c : Fin 300) : EReal := ((dist X M i c : ℝ) : EReal)

/-- The first mean nearest to a row. -/
def near (i : Fin 8192) : Fin 300 := (exists_least (by decide) (far X M i)).choose

theorem near_least (i : Fin 8192) : Least (far X M i) (near X M i) := (exists_least (by decide) (far X M i)).choose_spec

/-- The sum of a cluster's rows. -/
def total (c : Fin 300) (l : Fin 128) : ℝ := ∑ i, if near X M i = c then X i l else 0

/-- The number of a cluster's rows. -/
def size (c : Fin 300) : ℕ := (Finset.univ.filter fun i => near X M i = c).card

/-- The means after one iteration: a cluster's average, the old mean where the cluster is empty. -/
def step (c : Fin 300) (l : Fin 128) : ℝ := if size X M c = 0 then M c l else total X M c l / size X M c

theorem size_eq (c : Fin 300) : ((size X M c : ℕ) : ℝ) = ∑ i, if near X M i = c then (1 : ℝ) else 0 := by
  rw [size, Finset.sum_boole]

/-! ### Sums of extended reals that are real -/

theorem coe_sum {ι : Type} (s : Finset ι) (f : ι → ℝ) : (((∑ i ∈ s, f i : ℝ)) : EReal) = ∑ i ∈ s, ((f i : ℝ) : EReal) := by
  induction s using Finset.cons_induction with
  | empty => simp
  | cons a s h ih => rw [Finset.sum_cons, Finset.sum_cons, EReal.coe_add, ih]

/-- A sum of products of real numbers. -/
theorem sum_mul {n : ℕ} {f g : Fin n → EReal} {p q : Fin n → ℝ} (hf : ∀ i, f i = ((p i : ℝ) : EReal)) (hg : ∀ i, g i = ((q i : ℝ) : EReal)) :
    ∑ i, f i * g i = ((∑ i, p i * q i : ℝ) : EReal) := by
  rw [coe_sum]
  exact Finset.sum_congr rfl fun i _ => by rw [hf, hg, EReal.coe_mul]

/-- The average as both programs take it: a quotient by one where the cluster is empty, then the old mean there. -/
theorem step_eq (c : Fin 300) (l : Fin 128) {n t m : EReal} (hn : n = ((size X M c : ℕ) : ℝ)) (ht : t = ((total X M c l : ℝ) : EReal))
    (hm : m = ((M c l : ℝ) : EReal)) : (if n = 0 then m else Ideal.div t (if n = 0 then 1 else n)) = ((step X M c l : ℝ) : EReal) := by
  unfold step
  subst hn ht hm
  by_cases h : size X M c = 0
  · rw [if_pos h, if_pos (by rw [h]; simp)]
  · have h' : ((size X M c : ℕ) : ℝ) ≠ 0 := by exact_mod_cast h
    have h'' : ¬ ((((size X M c : ℕ) : ℝ)) : EReal) = 0 := by exact_mod_cast h'
    rw [if_neg h, if_neg h'', if_neg h'', Ideal.div_coe h', ← EReal.coe_mul]
    congr 1
    rw [mul_one_div]

end Cert.Spec
-- ==== Proof.KernelVals.lean ====
/-
  What one iteration of the kernel computes, over the extended reals, from tables of real numbers: the nearest means, the
  sums and the numbers of the clusters' rows, the next means, and the means laid out by the rows' clusters.
-/
module

public import proofs.«01_k».proof.Proof.BodyI
public import proofs.«01_k».proof.Proof.Spec
public import Idealize.ShloMosaic.Lib.Pipeline.ValueKit

@[expose] public section

noncomputable section

namespace Cert.KernelIdeal.Hand

open Idealize.ShloMosaic Cert.KernelIdeal Cert.KernelIdeal.Gen Cert.Nearest Cert.Spec

/-! ### A block of rows -/

theorem ofBits_inf : Ideal.ofBits .f32 2139095040#32 = ⊤ := by simp [Ideal.ofBits, Ideal.ieee]

/-- The number of the first least distance of a column. -/
theorem argmin_apply {v16 : Vec Ideal S300x1 .f32} {v35 : FVec Ideal S300x2048 .f32} {v46 : Vec Ideal S1x2048 .f32} {j : Fin 2048}
    {f : Fin 300 → EReal} (hf : ∀ c, v46 (ix2 0 j) - v35 (ix2 c j) + v16 (ix2 c 0) = f c) {c : Fin 300} (hc : Least f c) :
    k0_pay24 ids v16 v35 v46 (ix2 0 j) = BitVec.ofNat 32 c.val := by
  pointwise [k0_pay24, ids]
  simp only [hf, ofBits_inf, fold_min hc.1]
  exact least_number hc _ fun d => rfl

/-- Row `j` of the block of 2048 rows from row `o`. -/
def row (o : ℕ) (h : o + 2048 ≤ 8192) (j : Fin 2048) : Fin 8192 := ⟨o + j.val, by omega⟩

/-- One where the two numbers agree, else zero. -/
theorem hot_apply (b c : Fin 300) :
    FloatOps.sitofp (F := Ideal) .f32 (BitVec.setWidth 32 (IntOp.cmpi .eq (BitVec.ofNat 32 c.val) (BitVec.ofNat 32 b.val)))
      = (((if b = c then 1 else 0 : ℝ)) : EReal) := by
  have e : (IntOp.cmpi .eq (BitVec.ofNat 32 c.val) (BitVec.ofNat 32 b.val)) = if b = c then 1#1 else 0#1 := by
    show BitVec.ofBool (BitVec.ofNat 32 c.val == BitVec.ofNat 32 b.val) = _
    by_cases h : b = c
    · subst h; simp
    · have : ¬ BitVec.ofNat 32 c.val = BitVec.ofNat 32 b.val := fun e => h (Fin.ext (by
        have := congrArg BitVec.toNat e
        rw [BitVec.toNat_ofNat, BitVec.toNat_ofNat, Nat.mod_eq_of_lt (by omega), Nat.mod_eq_of_lt (by omega)] at this
        exact this.symm))
      rw [if_neg h, beq_eq_false_iff_ne.2 this]
      rfl
  rw [e]
  show ((((BitVec.setWidth 32 (if b = c then 1#1 else 0#1)).toInt : ℤ) : ℝ) : EReal) = _
  split <;> simp

theorem ids_apply (c : Fin 300) (j : Fin 2048) : ids (ix2 c j) = BitVec.ofNat 32 c.val := by pointwise [ids]

theorem ix_row (x : S1x2048.Idx) : x = ix2 (0 : Fin 1) (x 1) := by
  idx_vars x
  exact congrArg (fun a : Fin 1 => ix2 a x1) (Subsingleton.elim x0 0)

variable {X : Fin 8192 → Fin 128 → ℝ} {M : Fin 300 → Fin 128 → ℝ}
variable {S8 : Vec Ideal S8192x128 .f32} {S9 : Vec Ideal S8192x512 .bf16} {s2 : Vec Ideal S1x8192 .f32} {mn : Vec Ideal S300x128 .f32}

theorem dist_eq (i : Fin 8192) (c : Fin 300) :
    Spec.dist X M i c = norm X i - (∑ l, M c l * (X i l + X i l)) + ∑ l, M c l * M c l := by
  unfold Spec.dist
  congr 2
  rw [Finset.mul_sum]
  exact Finset.sum_congr rfl fun l _ => by ring

section Block
variable (h8 : Is S8 fun i l => X i l + X i l) (h2 : ∀ i, s2 (ix2 0 i) = ((norm X i : ℝ) : EReal)) (hm : Is mn M)
variable {o : ℕ} (h : o + 2048 ≤ 8192) (hr : ∀ a, ![o, 0] a + S2048x128.size a ≤ S8192x128.size a)
variable (hc : ∀ a, ![0, o] a + S1x2048.size a ≤ S1x8192.size a) (h9 : ∀ a, ![o, 0] a + S2048x512.size a ≤ S8192x512.size a)
include h8 h2 hm

/-- The nearest means of a block's rows. -/
theorem block_near (j : Fin 2048) :
    k0_pay24 ids (k0_pay19 mn) (k0_pay20 mn (rows8 S8 o hr)) (cols s2 o hc) (ix2 0 j) = BitVec.ofNat 32 (near X M (row o h j)).val := by
  refine argmin_apply (fun c => ?_) (near_least X M (row o h j))
  pointwise [k0_pay19, k0_pay20, rows8, cols]
  have e2 := h2 (row o h j)
  have e8 : ∀ l, S8 (ix2 (row o h j) l) = _ := h8 (row o h j)
  have em : ∀ l, mn (ix2 c l) = _ := hm c
  have e1 := sum_mul em e8
  have e3 := sum_mul em em
  unfold row at e1 e2
  rw [e1, e3, e2]
  unfold far
  rw [dist_eq, EReal.coe_add, EReal.coe_sub]
  rfl

/-- The sums of a block's rows by cluster, at a column whose entries are the real numbers `v`. -/
theorem block_sum {v : Fin 8192 → ℝ} {k : Fin 512} (hv : ∀ i, S9 (ix2 i k) = ((v i : ℝ) : EReal)) (c : Fin 300) :
    k0_pay25 ids (k0_pay19 mn) (k0_pay20 mn (rows8 S8 o hr)) (cols s2 o hc) (rows9 S9 o h9) (ix2 c k)
      = ((∑ j, (if near X M (row o h j) = c then 1 else 0) * v (row o h j) : ℝ) : EReal) := by
  pointwise [k0_pay25]
  refine sum_mul (fun j => ?_) fun j => ?_
  · rw [ids_apply, block_near h8 h2 hm h hr hc j, hot_apply]
  · pointwise [rows9]
    exact hv (row o h j)

include h in
/-- The nearest mean of the row a place of a block stands for. -/
theorem piece_near (x : S1x2048.Idx) (i : Fin 8192) (hi : i.val = o + (x 1).val) :
    k0_pay24 ids (k0_pay19 mn) (k0_pay20 mn (rows8 S8 o hr)) (cols s2 o hc) x = BitVec.ofNat 32 (near X M i).val := by
  have e : i = row o h (x 1) := Fin.ext hi
  rw [e, ix_row x]
  exact block_near h8 h2 hm h hr hc (x 1)

end Block

/-- A sum over all the rows, a block at a time. -/
theorem sum_blocks (f : Fin 8192 → ℝ) :
    ∑ i, f i = ((∑ j, f (row 0 (by decide) j)) + ∑ j, f (row 2048 (by decide) j))
      + ((∑ j, f (row 4096 (by decide) j)) + ∑ j, f (row 6144 (by decide) j)) := by
  rw [Fin.sum_univ_two_halves 4096 4096 rfl f, Fin.sum_univ_two_halves 2048 2048 rfl, Fin.sum_univ_two_halves 2048 2048 rfl]
  have e0 : ∑ j : Fin 2048, f (row 0 (by decide) j) = ∑ k : Fin 2048, f ⟨k.val, by omega⟩ :=
    Finset.sum_congr rfl fun j _ => congrArg f (Fin.ext (Nat.zero_add _))
  have e3 : ∑ j : Fin 2048, f (row 6144 (by decide) j) = ∑ k : Fin 2048, f ⟨4096 + (2048 + k.val), by omega⟩ :=
    Finset.sum_congr rfl fun j _ => congrArg f (Fin.ext (by show 6144 + j.val = 4096 + (2048 + j.val); omega))
  rw [e0, e3]
  rfl

/-! ### One iteration -/

section Step
variable (h8 : Is S8 fun i l => X i l + X i l) (h2 : ∀ i, s2 (ix2 0 i) = ((norm X i : ℝ) : EReal)) (hm : Is mn M)
include h8 h2 hm

/-- The nearest means of all the rows. -/
theorem nearest_apply (i : Fin 8192) : nearest S8 s2 mn (ix2 0 i) = BitVec.ofNat 32 (near X M i).val := by
  unfold nearest
  canon_tiles x h
  · exact piece_near h8 h2 hm (o := 6144) (by decide) (by decide) (by decide) x i h1
  · exact piece_near h8 h2 hm (o := 4096) (by decide) (by decide) (by decide) x i h1
  · exact piece_near h8 h2 hm (o := 2048) (by decide) (by decide) (by decide) x i h1
  · exact piece_near h8 h2 hm (o := 0) (by decide) (by decide) (by decide) x i (by rw [Nat.zero_add]; exact h1)

/-- The sum over all the rows of one column, as the four blocks give it. -/
theorem column {v : Fin 8192 → ℝ} {k : Fin 512} (hv : ∀ i, S9 (ix2 i k) = ((v i : ℝ) : EReal)) (c : Fin 300) :
    acc0 S8 S9 s2 mn (ix2 c k) + acc1 S8 S9 s2 mn (ix2 c k)
      + (acc2 S8 S9 s2 mn (ix2 c k)
        + ∑ x : Fin 2048, FloatOps.sitofp (F := Ideal) .f32 (BitVec.setWidth 32 (IntOp.cmpi .eq (BitVec.ofNat 32 c.val)
            (k0_pay11 (hot3 S8 s2 mn) (ix2 0 x)))) * rows9 S9 6144 (by decide) (ix2 x k))
      = ((∑ i, (if near X M i = c then 1 else 0) * v i : ℝ) : EReal) := by
  have e0 : acc0 S8 S9 s2 mn (ix2 c k) = _ := block_sum h8 h2 hm (o := 0) (by decide) (by decide) (by decide) (by decide) hv c
  have e1 : acc1 S8 S9 s2 mn (ix2 c k) = _ := block_sum h8 h2 hm (o := 2048) (by decide) (by decide) (by decide) (by decide) hv c
  have e2 : acc2 S8 S9 s2 mn (ix2 c k) = _ := block_sum h8 h2 hm (o := 4096) (by decide) (by decide) (by decide) (by decide) hv c
  have e3 : ∀ x, k0_pay11 (hot3 S8 s2 mn) (ix2 0 x) = _ := block_near h8 h2 hm (o := 6144) (by decide) (by decide) (by decide)
  rw [sum_blocks, e0, e1, e2, EReal.coe_add, EReal.coe_add, EReal.coe_add]
  congr 2
  refine sum_mul (fun j => ?_) fun j => ?_
  · rw [e3, hot_apply]
  · pointwise [rows9]
    exact hv (row 6144 (by decide) j)

end Step

/-- The sums' three columns, added up. -/
theorem add3_apply (v1 v2 v3 : Vec Ideal S300x512 .f32) (v4 : IVec S300x2048 32) (v5 : Vec Ideal S2048x512 .bf16) (c : Fin 300) (l : Fin 128)
    {k0 k1 k2 : Fin 512} (e0 : k0.val = l.val) (e1 : k1.val = 128 + l.val) (e2 : k2.val = 256 + l.val)
    {g : Fin 512 → EReal} (hg : ∀ k, v1 (ix2 c k) + v2 (ix2 c k) + (v3 (ix2 c k)
        + ∑ x : Fin 2048, FloatOps.sitofp (F := Ideal) .f32 (BitVec.setWidth 32 (IntOp.cmpi .eq (BitVec.ofNat 32 c.val)
            (k0_pay11 v4 (ix2 0 x)))) * v5 (ix2 x k)) = g k) :
    k0_pay13 ids v1 v2 v3 v4 v5 (k0_pay17 (F := Ideal)) (ix2 c l) = g k0 + g k1 + g k2 := by
  pointwise [k0_pay13, k0_pay12, k0_pay17, ids]
  exact congrArg₂ (· + ·) (congrArg₂ (· + ·) ((hg _).trans (congrArg g (Fin.ext e0.symm))) ((hg _).trans (congrArg g (Fin.ext e1.symm))))
    ((hg _).trans (congrArg g (Fin.ext e2.symm)))

/-- The numbers' column. -/
theorem last_apply (v1 v2 v3 : Vec Ideal S300x512 .f32) (v4 : IVec S300x2048 32) (v5 : Vec Ideal S2048x512 .bf16) (c : Fin 300)
    {k : Fin 512} (e : k.val = 384)
    {g : Fin 512 → EReal} (hg : ∀ k, v1 (ix2 c k) + v2 (ix2 c k) + (v3 (ix2 c k)
        + ∑ x : Fin 2048, FloatOps.sitofp (F := Ideal) .f32 (BitVec.setWidth 32 (IntOp.cmpi .eq (BitVec.ofNat 32 c.val)
            (k0_pay11 v4 (ix2 0 x)))) * v5 (ix2 x k)) = g k) :
    k0_pay14 ids v1 v2 v3 v4 v5 (k0_pay18 (F := Ideal)) (ix2 c 0) = g k := by
  pointwise [k0_pay14, k0_pay12, k0_pay18, ids]
  exact (hg _).trans (congrArg g (Fin.ext e.symm))

/-! ### The split rows -/

section Split
variable {x : Vec Ideal S8192x128 .f32} (hx : Is x X)
include hx

theorem doubled_is : Is (doubled x) fun i l => X i l + X i l := fun i l => by
  pointwise [doubled, k0_pay2, k0_pay1]
  rw [hx i l, ← EReal.coe_add]

theorem rest_zero (r : ℝ) : ((r : ℝ) : EReal) - r = 0 := by rw [← EReal.coe_sub, sub_self, EReal.coe_zero]

theorem pay6_is (i : Fin 8192) (l : Fin 128) : k0_pay6 x (ix2 i l) = ((X i l : ℝ) : EReal) := by
  pointwise [k0_pay6, k0_pay3, k0_pay1]
  exact hx i l

theorem pay7_is (i : Fin 8192) (l : Fin 128) : k0_pay7 x (ix2 i l) = 0 := by
  pointwise [k0_pay7, k0_pay5, k0_pay4, k0_pay3, k0_pay1]
  rw [hx i l, rest_zero hx]

theorem pay8_is (i : Fin 8192) (l : Fin 128) : k0_pay8 x (ix2 i l) = 0 := by
  pointwise [k0_pay8, k0_pay5, k0_pay4, k0_pay3, k0_pay1]
  rw [hx i l, rest_zero hx, sub_zero]

omit hx in
theorem pay9_is (i : Fin 8192) (l : Fin 128) (hl : l.val = 0) : k0_pay9 (F := Ideal) (ix2 i l) = 1 := by
  pointwise [k0_pay9]
  have : l = 0 := Fin.ext hl
  subst this
  exact (hot_apply 0 0).trans (by simp)

/-- Every entry of the split rows, in columns of 128. -/
theorem split_apply (i : Fin 8192) (k : Fin 512) (v : EReal)
    (h0 : ∀ l : Fin 128, k.val = l.val → v = ((X i l : ℝ) : EReal)) (h1 : 128 ≤ k.val → k.val < 384 → v = 0)
    (h2 : 384 ≤ k.val → k.val = 384 ∧ v = 1) : split x (ix2 i k) = v := by
  unfold split
  canon_tiles y g
  · have hk : k.val = 384 + (y 1).val := g1
    rw [(h2 (by omega)).2, eq_ix2 y]
    exact pay9_is _ _ (by have := (h2 (by omega)).1; omega)
  · have hk : k.val = 256 + (y 1).val := g1
    rw [h1 (by omega) (by omega), eq_ix2 y]
    exact pay8_is hx _ _
  · have hk : k.val = 128 + (y 1).val := g1
    rw [h1 (by omega) (by omega), eq_ix2 y]
    exact pay7_is hx _ _
  · have hi : y 0 = i := Fin.ext g0.symm
    rw [h0 (y 1) g1, eq_ix2 y, hi]
    exact pay6_is hx _ _

theorem col_row (i : Fin 8192) (k : Fin 512) (l : Fin 128) (h : k.val = l.val) : split x (ix2 i k) = ((X i l : ℝ) : EReal) :=
  split_apply hx i k _ (fun l' e => by rw [show l' = l from Fin.ext (e.symm.trans h)]) (fun e _ => by omega) fun e => by omega

theorem col_zero (i : Fin 8192) (k : Fin 512) (h : 128 ≤ k.val) (h' : k.val < 384) : split x (ix2 i k) = ((0 : ℝ) : EReal) :=
  (split_apply hx i k 0 (fun l' e => by omega) (fun _ _ => rfl) fun e => by omega).trans EReal.coe_zero.symm

theorem col_one (i : Fin 8192) (k : Fin 512) (h : k.val = 384) : split x (ix2 i k) = ((1 : ℝ) : EReal) :=
  (split_apply hx i k 1 (fun l' e => by omega) (fun _ e => by omega) fun _ => ⟨h, rfl⟩).trans EReal.coe_one.symm

/-! ### The next means -/

variable (h2 : ∀ i, s2 (ix2 0 i) = ((norm X i : ℝ) : EReal)) (hm : Is mn M)
include h2 hm

/-- The numbers of the clusters' rows. -/
theorem counts_is (c : Fin 300) : counts (doubled x) (split x) s2 mn (ix2 c 0) = ((size X M c : ℕ) : ℝ) := by
  obtain ⟨k, hk⟩ : ∃ k : Fin 512, k.val = 384 := ⟨⟨384, by omega⟩, rfl⟩
  have e := last_apply (acc0 (doubled x) (split x) s2 mn) (acc1 (doubled x) (split x) s2 mn) (acc2 (doubled x) (split x) s2 mn)
    (hot3 (doubled x) s2 mn) (rows9 (split x) 6144 (by decide)) c hk fun _ => rfl
  rw [size_eq]
  refine Eq.trans ?_ ((column (doubled_is hx) h2 hm (fun i => col_one hx i k hk) c).trans (congrArg _ (Finset.sum_congr rfl fun i _ => mul_one _)))
  exact e

/-- The sums of the clusters' rows. -/
theorem sums_is (c : Fin 300) (l : Fin 128) : sums (doubled x) (split x) s2 mn (ix2 c l) = ((total X M c l : ℝ) : EReal) := by
  obtain ⟨k0, e0⟩ : ∃ k : Fin 512, k.val = l.val := ⟨⟨l.val, by omega⟩, rfl⟩
  obtain ⟨k1, e1⟩ : ∃ k : Fin 512, k.val = 128 + l.val := ⟨⟨128 + l.val, by omega⟩, rfl⟩
  obtain ⟨k2, e2⟩ : ∃ k : Fin 512, k.val = 256 + l.val := ⟨⟨256 + l.val, by omega⟩, rfl⟩
  have e := add3_apply (acc0 (doubled x) (split x) s2 mn) (acc1 (doubled x) (split x) s2 mn) (acc2 (doubled x) (split x) s2 mn)
    (hot3 (doubled x) s2 mn) (rows9 (split x) 6144 (by decide)) c l e0 e1 e2 fun _ => rfl
  have a := column (doubled_is hx) h2 hm (fun i => col_row hx i k0 l e0) c
  have z : ∀ k : Fin 512, 128 ≤ k.val → k.val < 384 → _ := fun k g g' =>
    column (doubled_is hx) h2 hm (k := k) (fun i => col_zero hx i k g g') c
  refine Eq.trans e (((congrArg₂ (· + ·) (congrArg₂ (· + ·) a (z k1 (by omega) (by omega))) (z k2 (by omega) (by omega)))).trans ?_)
  rw [← EReal.coe_add, ← EReal.coe_add]
  refine congrArg _ ?_
  unfold total
  simp

/-- The next means. -/
theorem stepMeans_is : Is (stepMeans (doubled x) (split x) s2 mn) (step X M) := fun c l => by
  unfold stepMeans
  pointwise [k0_pay15]
  exact step_eq X M c l (counts_is hx h2 hm c) (sums_is hx h2 hm c l) (hm c l)

end Split

/-- The means laid out by the rows' clusters. -/
theorem laid_apply {b : IVec S1x8192 32} {n : Fin 8192 → Fin 300} (hb : ∀ i, b (ix2 0 i) = BitVec.ofNat 32 (n i).val) (hm : Is mn M)
    (i : Fin 8192) (l : Fin 128) : k0_pay16 b mn (ix2 i l) = ((M (n i) l : ℝ) : EReal) := by
  pointwise [k0_pay16]
  have hs : ∀ x, mn (ix2 x l) - mn (ix2 x l) = ((0 : ℝ) : EReal) := fun x => by rw [hm x l, ← EReal.coe_sub, sub_self]
  have hh : ∀ x : Fin 300, FloatOps.sitofp (F := Ideal) .f32 (BitVec.setWidth 32 (IntOp.cmpi .eq (BitVec.ofNat 32 x.val) (b (ix2 0 i))))
      = (((if n i = x then 1 else 0 : ℝ)) : EReal) := fun x => by rw [hb, hot_apply]
  rw [sum_mul hh (fun x => hm x l), sum_mul hh hs, sum_mul hh (fun x => by rw [hs x, ← EReal.coe_sub]), ← EReal.coe_add, ← EReal.coe_add]
  simp

end Cert.KernelIdeal.Hand
-- ==== Proof.KernelEnd.lean ====
/-
  What the kernel leaves in its three results, over the extended reals, when its rows and its first means are real numbers.
-/
module

public import proofs.«01_k».proof.Proof.KernelVals
public import proofs.«01_k».proof.Proof.FrameI

@[expose] public section

set_option maxRecDepth 65536

noncomputable section

namespace Cert.KernelIdeal.Hand

open Idealize.ShloMosaic Idealize.ShloMosaic.TcCoe Idealize.ShloMosaic.StableHlo
open Cert.KernelIdeal Cert.KernelIdeal.Gen Cert.Nearest Cert.Spec
open Idealize.SL.Sem

/-! ### The operations around the region -/

section Ops
variable {F : FTy → Type} [FloatOps F]

/-- The rows' squared lengths, as a row. -/
def lengths (x : FVec F S8192x128 .f32) : FVec F S1x8192 .f32 :=
  shapeCast S1x8192 (broadcastInDim S8192x1 ![0] bcast_S8192_S8192x1_0
    (Host.reduceAdd (mulf x x) (constant S_ .f32 0x00000000#32) reducesTo_S8192x128_S8192_d1 h_S_)) shapeCasts_S8192x1_S1x8192

variable (V : Valuation τ sig (Elt F))

theorem last_rows : after hostOps0_2 V main_v0 = V main_v0 := by
  simp only [hostOps0_2]
  after_results_simp

theorem last_lengths : after hostOps0_2 V main_v21 = lengths (V main_v0) := by
  simp only [hostOps0_2]
  after_results_simp
  rfl

theorem tail_laid : after hostOps1 V main_v24 = shapeCast S8x1024x128 (V main_v22_0) shapeCasts_S8192x128_S8x1024x128 := by
  simp only [hostOps1]
  after_results_simp
  rfl

theorem tail_best : after hostOps1 V main_v23 = shapeCast S8x1024 (V main_v22_1) shapeCasts_S1x8192_S8x1024 := by
  simp only [hostOps1]
  after_results_simp
  rfl

end Ops

/-! ### Their values -/

/-- The row that stands at place `p, q`. -/
def line (p : Fin 8) (q : Fin 1024) : Fin 8192 := ⟨p.val * 1024 + q.val, by omega⟩

theorem cast_best (b : IVec S1x8192 32) (p : Fin 8) (q : Fin 1024) :
    shapeCast S8x1024 b shapeCasts_S1x8192_S8x1024 (ix2 p q) = b (ix2 0 (line p q)) := by
  pointwise []
  rfl

theorem cast_laid (b : FVec Ideal S8192x128 .f32) (p : Fin 8) (q : Fin 1024) (l : Fin 128) :
    shapeCast S8x1024x128 b shapeCasts_S8192x128_S8x1024x128 (ix3 p q l) = b (ix2 (line p q) l) := by
  pointwise []
  rfl

theorem start_is {mm : Vec Ideal S300x128 .f32} {M : Fin 300 → Fin 128 → ℝ} (h : Is mm M) : Is (start mm) M := fun c l => by
  refine Eq.trans ?_ (h c l)
  pointwise [start, k0_pay10]

theorem lengths_apply {x : FVec Ideal S8192x128 .f32} {X : Fin 8192 → Fin 128 → ℝ} (h : Is x X) (i : Fin 8192) :
    lengths x (ix2 0 i) = ((norm X i : ℝ) : EReal) := by
  pointwise [lengths]
  exact sum_mul (h i) (h i)

/-! ### The region -/

variable (m : (ℓ : Loc nD τ sig) → Buf (Elt Ideal) ℓ) (c : Dev nD)
variable {X : Fin 8192 → Fin 128 → ℝ} {M : Fin 300 → Fin 128 → ℝ}

theorem s2in_eq : s2in m c = lengths (xin m c) := by
  unfold s2in xin
  have e : V0 m c = after hostOps0_2 (after (hostOps0 ++ hostOps0_1) fun b => m (c, b)) := by
    rw [← after_append]
    rfl
  have h1 := (congrFun e (Proc.devRef .tc main_v21)).trans (last_lengths _)
  have h0 := (congrFun e (Proc.devRef .tc main_v0)).trans (last_rows _)
  exact h1.trans (congrArg (lengths (F := Ideal)) h0.symm)

section Region
variable (hx : Is (xin m c) X) (hm : Is (min0 m c) M)
include hx hm

theorem means_is : ∀ n, Is (means m c n) ((step X)^[n] M)
  | 0 => by rw [means_zero]; exact start_is hm
  | n + 1 => by
    rw [means_succ, Function.iterate_succ_apply', next, s2in_eq]
    exact stepMeans_is hx (lengths_apply hx) (means_is n)

theorem bucket_is (n : ℕ) (i : Fin 8192) : bucket m c n (ix2 0 i) = BitVec.ofNat 32 (near X ((step X)^[n] M) i).val := by
  rw [bucket, s2in_eq]
  exact nearest_apply (doubled_is hx) (lengths_apply hx) (means_is m c hx hm n) i

theorem laid_is (i : Fin 8192) (l : Fin 128) : k0_pay16 (bucket m c 9) (means m c 10) (ix2 i l)
    = (((step X)^[10] M (near X ((step X)^[9] M) i) l : ℝ) : EReal) :=
  laid_apply (bucket_is m c hx hm 9) (means_is m c hx hm 10) i l

end Region

/-! ### The results -/

theorem exit_arr (w : Fin cfg0.W) : Pipeline.withArrays cfg0.spec c (V0 m c) (fun w => (dats m 0 c).arrAt w cfg0.N)
    (Proc.devRef .tc (Pipeline.arrRef cfg0.spec w)) = (dats m 0 c).arrAt w cfg0.N :=
  Pipeline.withArrays_arr _ (by decide) c _ _ w

theorem end_laid : Pipeline.afterTail₀ cfgs (dats m) 0 (V0 m) [hostOps1] c main_v24
    = shapeCast S8x1024x128 (k0_pay16 (bucket m c 9) (means m c 10)) shapeCasts_S8192x128_S8x1024x128 := by
  unfold Pipeline.afterTail₀
  rw [List.flatten_singleton]
  exact (tail_laid _).trans (congrArg (fun z => shapeCast S8x1024x128 z shapeCasts_S8192x128_S8x1024x128) ((exit_arr m c 3).trans (final3 m c)))

theorem end_best : Pipeline.afterTail₀ cfgs (dats m) 0 (V0 m) [hostOps1] c main_v23
    = shapeCast S8x1024 (bucket m c 9) shapeCasts_S1x8192_S8x1024 := by
  unfold Pipeline.afterTail₀
  rw [List.flatten_singleton]
  exact (tail_best _).trans (congrArg (fun z => shapeCast S8x1024 z shapeCasts_S1x8192_S8x1024) ((exit_arr m c 4).trans (final4 m c)))

/-- What the kernel leaves in its results. -/
theorem results (ρ : Dev nD → PrngReg) : θ_run defs (onTc (τ := τ) (main (F := Ideal))) ⟨m, fun _ => 0, ρ⟩ (fun r => ∀ c : Dev nD,
      r.2.mem ((c.tc : Thread nD τ).loc main_v24) = shapeCast S8x1024x128 (k0_pay16 (bucket m c 9) (means m c 10)) shapeCasts_S8192x128_S8x1024x128
      ∧ r.2.mem ((c.tc : Thread nD τ).loc main_v23) = shapeCast S8x1024 (bucket m c 9) shapeCasts_S1x8192_S8x1024
      ∧ r.2.mem ((c.tc : Thread nD τ).loc main_v22_2) = means m c 10) :=
  (θ_run defs _ _).mono (fun r h c => ⟨(h.rest_eq c main_v24 (by decide)).trans (end_laid m c),
    (h.rest_eq c main_v23 (by decide)).trans (end_best m c), (h.out_eq c 5).trans (final5 m c)⟩) (run_main m ρ)

end Cert.KernelIdeal.Hand
-- ==== Proof.RefVals.lean ====
/-
  What one trip of the reference computes, over the extended reals, from tables of real numbers.
-/
module

public import proofs.«01_k».proof.Proof.RefRun
public import proofs.«01_k».proof.Proof.Spec

@[expose] public section

set_option maxRecDepth 65536

noncomputable section

namespace Cert.ReferenceIdeal.Hand

open Idealize.ShloMosaic Idealize.ShloMosaic.TcCoe Idealize.ShloMosaic.StableHlo
open Cert.ReferenceIdeal Cert.ReferenceIdeal.Gen Cert.Nearest Cert.Spec

/-! ### The operations of a trip -/

section Ops
variable {F : FTy → Type} [FloatOps F]

/-- The squared distances of the rows to the means. -/
def distances (x : FVec F S8192x128 .f32) (mn : FVec F S300x128 .f32) : FVec F S8192x300 .f32 :=
  addf (subf (broadcastInDim S8192x300 ![0, 1] bcast_S8192x1_S8192x300_0_1 (broadcastInDim S8192x1 ![0] bcast_S8192_S8192x1_0
      (Host.reduceAdd (mulf x x) (constant S_ .f32 0x00000000#32) reducesTo_S8192x128_S8192_d1 h_S_)))
      (mulf (broadcastInDim S8192x300 ![] bcast_S_S8192x300 (constant S_ .f32 0x40000000#32))
        (Host.dotGeneral dot_S8192x128_S128x300_S8192x300_1_0_0_1_n_n none x (transpose S128x300 [1, 0] mn transposes_S300x128_S128x300_1_0))))
    (broadcastInDim S8192x300 ![0, 1] bcast_S1x300_S8192x300_0_1 (broadcastInDim S1x300 ![1] bcast_S300_S1x300_1
      (Host.reduceAdd (mulf mn mn) (constant S_ .f32 0x00000000#32) reducesTo_S300x128_S300_d1 h_S_)))

/-- The numbers of the greatest scores. -/
def best (y : FVec F S8192x300 .f32) : IVec S8192 32 := fun j =>
  (Host.argReduce reducer_argmax_f32_i32 (Host.negf y) (iotaInDim S8192x300 32 1) (constant S_ .f32 0xFF800000#32) (constantI S_ 32 0#32)
    reducesTo_S8192x300_S8192_d1 h_S_ j).2

/-- Numbers below zero moved up by 300, as a column. -/
def wrap (b : IVec S8192 32) : IVec S8192x1 32 :=
  broadcastInDim S8192x1 ![0] bcast_S8192_S8192x1_0
    (select (cmpi .slt b (broadcastInDim S8192 ![] bcast_S_S8192 (constantI S_ 32 0#32)))
      (addi b (broadcastInDim S8192 ![] bcast_S_S8192 (constantI S_ 32 300#32))) b)

/-- How many rows chose each number. -/
def tally (b : IVec S8192 32) : IVec S300 32 :=
  Host.scatter scatter_S300_S8192x1_S8192_n_0_0_1 IntOp.addi (broadcastInDim S300 ![] bcast_S_S300 (constantI S_ 32 0#32))
    (wrap (maxsi (broadcastInDim S8192 ![] bcast_S_S8192 (id (constantI S_ 32 0#32))) b))
    (broadcastInDim S8192 ![] bcast_S_S8192 (constantI S_ 32 1#32))

/-- The sums of the rows that chose each number. -/
def added (x : FVec F S8192x128 .f32) (b : IVec S8192 32) : FVec F S300x128 .f32 :=
  Host.scatterAdd scatter_S300x128_S8192x1_S8192x128_1_0_0_1 (broadcastInDim S300x128 ![] bcast_S_S300x128 (constant S_ .f32 0x00000000#32))
    (wrap b) x

/-- The averages, with the old means where nothing was counted. -/
def averages (t : IVec S300 32) (s mn : FVec F S300x128 .f32) : FVec F S300x128 .f32 :=
  select (broadcastInDim S300x128 ![0, 1] bcast_S300x1_S300x128_0_1 (broadcastInDim S300x1 ![0] bcast_S300_S300x1_0
      (cmpi .eq t (broadcastInDim S300 ![] bcast_S_S300 (constantI S_ 32 0#32))))) mn
    (Host.divf s (broadcastInDim S300x128 ![0, 1] bcast_S300x1_S300x128_0_1 (sitofp .f32 (broadcastInDim S300x1 ![0] bcast_S300_S300x1_0
      (select (cmpi .eq t (broadcastInDim S300 ![] bcast_S_S300 (constantI S_ 32 0#32)))
        (broadcastInDim S300 ![] bcast_S_S300 (id (constantI S_ 32 1#32))) t)))))

variable (V : Valuation τ sig (Elt F))

set_option maxHeartbeats 4000000

theorem body_rows : after body.1 V main_v19_0 = V main_v19_0 := by
  simp only [body, List.cons_append, List.nil_append]
  after_results_simp

/-- A trip's operations up to the choice of the means, those that count, and the rest. -/
abbrev part1 : List (HloOp τ sig (Elt F)) := body.1.take 25
abbrev part2 : List (HloOp τ sig (Elt F)) := (body.1.drop 25).take 17
abbrev part3 : List (HloOp τ sig (Elt F)) := (body.1.drop 25).drop 17

theorem body_parts : after body.1 V = after part3 (after part2 (after part1 V)) := by
  rw [← after_append, ← after_append]
  unfold part1 part2 part3
  rw [List.take_append_drop, List.take_append_drop]

theorem part1_best : after part1 V main_while0b_v38 = best (distances (V main_v19_0) (V main_v19_3)) := by
  simp only [part1, body, List.cons_append, List.nil_append, List.take_succ_cons, List.take_zero]
  after_results_simp
  rfl

theorem part1_keep : after part1 V main_v19_0 = V main_v19_0 ∧ after part1 V main_v19_3 = V main_v19_3 := by
  simp only [part1, body, List.cons_append, List.nil_append, List.take_succ_cons, List.take_zero]
  constructor <;> after_results_simp

theorem part2_tally : after part2 V main_while0b_v48 = tally (V main_while0b_v38) := by
  simp only [part2, body, List.cons_append, List.nil_append, List.take_succ_cons, List.take_zero, List.drop_succ_cons, List.drop_zero]
  after_results_simp
  rfl

theorem part2_keep : after part2 V main_v19_0 = V main_v19_0 ∧ after part2 V main_v19_3 = V main_v19_3
    ∧ after part2 V main_while0b_v38 = V main_while0b_v38 := by
  simp only [part2, body, List.cons_append, List.nil_append, List.take_succ_cons, List.take_zero, List.drop_succ_cons, List.drop_zero]
  refine ⟨?_, ?_, ?_⟩ <;> after_results_simp

theorem part3_means : after part3 V main_v19_3 = averages (V main_while0b_v48) (added (V main_v19_0) (V main_while0b_v38)) (V main_v19_3) := by
  simp only [part3, body, List.cons_append, List.nil_append, List.drop_succ_cons, List.drop_zero]
  after_results_simp
  rfl

theorem part3_best : after part3 V main_v19_4 = V main_while0b_v38 := by
  simp only [part3, body, List.cons_append, List.nil_append, List.drop_succ_cons, List.drop_zero]
  after_results_simp
  rfl

theorem body_best : after body.1 V main_v19_4 = best (distances (V main_v19_0) (V main_v19_3)) := by
  rw [body_parts, part3_best, (part2_keep _).2.2, part1_best]

theorem body_means : after body.1 V main_v19_3 = averages (tally (best (distances (V main_v19_0) (V main_v19_3))))
    (added (V main_v19_0) (best (distances (V main_v19_0) (V main_v19_3)))) (V main_v19_3) := by
  rw [body_parts, part3_means, part2_tally, (part2_keep _).1, (part2_keep _).2.1, (part2_keep _).2.2, (part1_keep _).1, (part1_keep _).2, part1_best]

end Ops

end Cert.ReferenceIdeal.Hand
-- ==== Proof.RefMath.lean ====
/-
  A trip of the reference over the extended reals, from tables of real numbers: the nearest means, the sums and the numbers of
  the clusters' rows, and the next means.
-/
module

public import proofs.«01_k».proof.Proof.RefVals
public import Idealize.ShloMosaic.Lib.Pointwise
public import Idealize.ShloMosaic.Lib.Routing.OpsPair

@[expose] public section

noncomputable section

namespace Cert.ReferenceIdeal.Hand

open Idealize.ShloMosaic
open Cert.ReferenceIdeal Cert.ReferenceIdeal.Gen Cert.Nearest Cert.Spec

variable {X : Fin 8192 → Fin 128 → ℝ} {M : Fin 300 → Fin 128 → ℝ}
variable {x : FVec Ideal S8192x128 .f32} {mn : FVec Ideal S300x128 .f32}

/-! ### The nearest means -/

theorem ofBits_two : Ideal.ofBits .f32 1073741824#32 = ((2 : ℝ) : EReal) := by
  simp [Ideal.ofBits, Ideal.ieee]
  rw [← EReal.coe_mul]
  norm_num

theorem ofBits_bot : Ideal.ofBits .f32 4286578688#32 = ⊥ := by simp [Ideal.ofBits, Ideal.ieee]

theorem distances_apply (hx : Is x X) (hm : Is mn M) (i : Fin 8192) (c : Fin 300) : distances x mn (ix2 i c) = far X M i c := by
  pointwise [distances]
  rw [ofBits_two, sum_mul (hx i) (hx i), sum_mul (hx i) (hm c), sum_mul (hm c) (hm c), ← EReal.coe_mul, ← EReal.coe_sub, ← EReal.coe_add]
  rfl

/-- The reference's choice between two places is a choice of the greater score, then of the smaller number. -/
theorem reducer_keeps : Keeps (reducer_argmax_f32_i32 (F := Ideal)) := by
  intro p q
  have e3 : FloatOps.cmpf (F := Ideal) (φ := .f32) .une p.1 p.1 = 0#1 := by
    show BitVec.ofBool (decide (p.1 ≠ p.1)) = 0#1
    simp
  have e2 : FloatOps.cmpf (F := Ideal) (φ := .f32) .ogt p.1 q.1 = if q.1 < p.1 then 1#1 else 0#1 := by
    show BitVec.ofBool (decide (q.1 < p.1)) = _
    by_cases h : q.1 < p.1 <;> simp [h]
  have e5 : FloatOps.cmpf (F := Ideal) (φ := .f32) .oeq p.1 q.1 = if p.1 = q.1 then 1#1 else 0#1 := by
    show BitVec.ofBool (decide (p.1 = q.1)) = _
    by_cases h : p.1 = q.1 <;> simp [h]
  have e6 : IntOp.cmpi .slt p.2 q.2 = if p.2.toInt < q.2.toInt then 1#1 else 0#1 := by
    show BitVec.ofBool (p.2.slt q.2) = _
    by_cases h : p.2.toInt < q.2.toInt
    · rw [if_pos h, (BitVec.slt_iff_toInt_lt).2 h]; rfl
    · rw [if_neg h, Bool.eq_false_iff.2 fun h' => h ((BitVec.slt_iff_toInt_lt).1 h')]; rfl
  have hr : reducer_argmax_f32_i32 (F := Ideal) p q
      = (if q.1 < p.1 then p.1 else q.1, if q.1 < p.1 ∨ q.1 = p.1 ∧ p.2.toInt < q.2.toInt then p.2 else q.2) := by
    unfold reducer_argmax_f32_i32
    dsimp only
    rw [e2, e3, e5, e6]
    by_cases h : q.1 < p.1
    · have : ¬ p.1 = q.1 := h.ne'
      simp [h, this, Scalar.select, IntOp.ori, IntOp.andi]
    · by_cases h1 : p.1 = q.1
      · by_cases h2 : p.2.toInt < q.2.toInt <;> simp [h1, h2, Scalar.select, IntOp.ori, IntOp.andi]
      · have : ¬ q.1 = p.1 := fun e => h1 e.symm
        simp [h, h1, this, Scalar.select, IntOp.ori, IntOp.andi]
  rw [hr]
  constructor
  · rintro (h | ⟨h, h'⟩)
    · simp [h]
    · simp [h, h']
  · intro h
    have h1 : ¬ q.1 < p.1 := fun e => h (Or.inl e)
    rw [if_neg h1, if_neg (show ¬ (q.1 < p.1 ∨ q.1 = p.1 ∧ p.2.toInt < q.2.toInt) from h)]

set_option maxRecDepth 65536 in
/-- The number of the least distance. -/
theorem best_apply {y : FVec Ideal S8192x300 .f32} {i : Fin 8192} {f : Fin 300 → EReal} {c : Fin 300} (hf : ∀ d, y (ix2 i d) = f d)
    (hc : Least f c) (ht : f c ≠ ⊤) : best y (ix1 i) = BitVec.ofNat 32 c.val := by
  have e := congrFun (Ideal.argReduce_eq_reduce2 (reducer_argmax_f32_i32 (F := Ideal)) (Host.negf y) (iotaInDim S8192x300 32 1)
    (constant S_ .f32 0xFF800000#32) (constantI S_ 32 0#32) reducesTo_S8192x300_S8192_d1 h_S_) (ix1 i)
  refine (congrArg Prod.snd (e.trans (Host.reduce2_eq_foldl_fiber ..))).trans ?_
  have z : (constant (F := Ideal) S_ .f32 0xFF800000#32) (Shape.Idx.first h_S_) = ⊥ := ofBits_bot
  have z' : (constantI S_ 32 0#32) (Shape.Idx.first h_S_) = 0#32 := rfl
  rw [z, z']
  refine fold_place reducer_keeps hc ht _ fun q => ?_
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 reducesTo_S8192x300_S8192_d1 (ix1 i) _).1 hn
    refine ⟨k, ?_⟩
    rw [← hk, ← hf k]
    rfl
  · rintro ⟨d, rfl⟩
    refine ⟨S8192x300.rowMajor (ix2 i d), ?_, ?_⟩
    · rw [Equiv.symm_apply_apply]
      exact (Shape.ReducesTo.fiber_r2_a1 reducesTo_S8192x300_S8192_d1 (ix1 i) _).2 ⟨d, rfl⟩
    · rw [Equiv.symm_apply_apply, ← hf d]
      rfl

theorem best_near (hx : Is x X) (hm : Is mn M) (i : Fin 8192) : best (distances x mn) (ix1 i) = BitVec.ofNat 32 (near X M i).val :=
  best_apply (distances_apply hx hm i) (near_least X M i) (EReal.coe_ne_top _)

/-! ### The scatters -/

theorem wrap_apply {b : IVec S8192 32} {i : Fin 8192} {c : Fin 300} (h : b (ix1 i) = BitVec.ofNat 32 c.val) :
    wrap b (ix2 i 0) = BitVec.ofNat 32 c.val := by
  pointwise [wrap]
  rw [h]
  exact Routing.wrap_of_lt _ _ (by rw [BitVec.toNat_ofNat]; omega)

theorem clip_apply {b : IVec S8192 32} {i : Fin 8192} {c : Fin 300} (h : b (ix1 i) = BitVec.ofNat 32 c.val) :
    maxsi (broadcastInDim S8192 ![] bcast_S_S8192 (id (constantI S_ 32 0#32))) b (ix1 i) = BitVec.ofNat 32 c.val := by
  show IntOp.maxsi 0#32 (b (ix1 i)) = _
  rw [h]
  have := toInt_ofNat_small (k := c.val) (by omega)
  unfold IntOp.maxsi
  rw [if_neg]
  intro h'
  have h' := BitVec.slt_iff_toInt_lt.1 h'
  rw [this] at h'
  exact absurd h' (by simp)

theorem lands1 (idx : IVec S8192x1 32) (i : Fin 8192) (c : Fin 300) :
    scatter_S300_S8192x1_S8192_n_0_0_1.resultIdx? (ix1 i) idx = some (ix1 c) ↔ (idx (ix2 i 0)).toInt = c.val := by
  refine (Routing.resultIdx?_ix1 scatter_S300_S8192x1_S8192_n_0_0_1 (ix1 i) idx c).trans ?_
  have hw : scatter_S300_S8192x1_S8192_n_0_0_1.window (ix1 i) 0 = 0 := rfl
  have hs : scatter_S300_S8192x1_S8192_n_0_0_1.start (ix1 i) idx 0 = (idx (ix2 i 0)).toInt := by
    refine congrArg (fun z => (idx z).toInt) (?_ : scatter_S300_S8192x1_S8192_n_0_0_1.siIdx (ix1 i) _ = ix2 i 0)
    funext a
    match a with
    | ⟨0, _⟩ => rfl
    | ⟨1, _⟩ => rfl
  rw [hw, hs]
  simp

theorem lands2 (idx : IVec S8192x1 32) (i : Fin 8192) (l' : Fin 128) (c : Fin 300) (l : Fin 128) :
    scatter_S300x128_S8192x1_S8192x128_1_0_0_1.resultIdx? (ix2 i l') idx = some (ix2 c l) ↔ (idx (ix2 i 0)).toInt = c.val ∧ l' = l := by
  refine (Routing.resultIdx?_ix2 scatter_S300x128_S8192x1_S8192x128_1_0_0_1 (ix2 i l') idx c l).trans ?_
  have hw : scatter_S300x128_S8192x1_S8192x128_1_0_0_1.window (ix2 i l') 0 = 0 := rfl
  have hw1 : scatter_S300x128_S8192x1_S8192x128_1_0_0_1.window (ix2 i l') 1 = l'.val := rfl
  have hs1 : scatter_S300x128_S8192x1_S8192x128_1_0_0_1.start (ix2 i l') idx 1 = 0 := rfl
  have hs : scatter_S300x128_S8192x1_S8192x128_1_0_0_1.start (ix2 i l') idx 0 = (idx (ix2 i 0)).toInt := by
    refine congrArg (fun z => (idx z).toInt) (?_ : scatter_S300x128_S8192x1_S8192x128_1_0_0_1.siIdx (ix2 i l') _ = ix2 i 0)
    funext a
    match a with
    | ⟨0, _⟩ => rfl
    | ⟨1, _⟩ => rfl
  rw [hw, hs, hw1, hs1]
  simp [Fin.ext_iff]

/-- A fold that adds one at some places counts them. -/
theorem foldl_ones {ι : Type} (P : ι → Prop) [DecidablePred P] : ∀ (l : List ι) (z : ℕ),
    l.foldl (fun a n => if P n then IntOp.addi a 1#32 else a) (BitVec.ofNat 32 z) = BitVec.ofNat 32 (z + (l.filter fun n => decide (P n)).length)
  | [], z => rfl
  | n :: l, z => by
    rw [List.foldl_cons]
    by_cases h : P n
    · rw [if_pos h, List.filter_cons_of_pos (by simpa using h), List.length_cons]
      have e : IntOp.addi (BitVec.ofNat 32 z) 1#32 = BitVec.ofNat 32 (z + 1) := (BitVec.ofNat_add z 1).symm
      rw [e, foldl_ones P l (z + 1)]
      congr 1
      omega
    · rw [if_neg h, List.filter_cons_of_neg (by simpa using h), foldl_ones P l z]

theorem toInt_eq_iff (d c : Fin 300) : (BitVec.ofNat 32 d.val).toInt = c.val ↔ d = c := by
  rw [toInt_ofNat_small (by omega), Fin.ext_iff]
  omega

/-- The numbers of the clusters' rows. -/
theorem tally_apply {b : IVec S8192 32} (hb : ∀ i, b (ix1 i) = BitVec.ofNat 32 (near X M i).val) (c : Fin 300) :
    tally b (ix1 c) = BitVec.ofNat 32 (size X M c) := by
  have key : ∀ n : Fin S8192.numel, scatter_S300_S8192x1_S8192_n_0_0_1.resultIdx? (S8192.rowMajor.symm n)
      (wrap (maxsi (broadcastInDim S8192 ![] bcast_S_S8192 (id (constantI S_ 32 0#32))) b)) = some (ix1 c)
      ↔ near X M (S8192.rowMajor.symm n 0) = c := fun n => by
    have en : S8192.rowMajor.symm n = ix1 (S8192.rowMajor.symm n 0) := eq_ix1 _
    rw [en]
    refine (lands1 _ _ _).trans ?_
    rw [wrap_apply (clip_apply (hb (S8192.rowMajor.symm n 0)))]
    exact toInt_eq_iff _ _
  unfold tally
  refine (Routing.scatter_at scatter_S300_S8192x1_S8192_n_0_0_1 IntOp.addi _ _ _ (ix1 c)).trans ?_
  refine (foldl_ones (fun n => scatter_S300_S8192x1_S8192_n_0_0_1.resultIdx? (S8192.rowMajor.symm n)
      (wrap (maxsi (broadcastInDim S8192 ![] bcast_S_S8192 (id (constantI S_ 32 0#32))) b)) = some (ix1 c)) _ 0).trans ?_
  rw [Nat.zero_add]
  refine congrArg _ ?_
  unfold size
  have e : ((List.finRange S8192.numel).filter fun n => decide (scatter_S300_S8192x1_S8192_n_0_0_1.resultIdx? (S8192.rowMajor.symm n)
      (wrap (maxsi (broadcastInDim S8192 ![] bcast_S_S8192 (id (constantI S_ 32 0#32))) b)) = some (ix1 c)))
      = (List.finRange S8192.numel).filter fun n => decide (near X M (S8192.rowMajor.symm n 0) = c) :=
    List.filter_congr fun n _ => decide_eq_decide.2 (key n)
  rw [e]
  show (Finset.univ.filter fun n : Fin S8192.numel => near X M (S8192.rowMajor.symm n 0) = c).card = _
  refine Finset.card_bij (fun n _ => S8192.rowMajor.symm n 0) (fun n hn => ?_) (fun n _ n' _ h => ?_) fun i hi => ?_
  · exact Finset.mem_filter.2 ⟨Finset.mem_univ _, (Finset.mem_filter.1 hn).2⟩
  · refine S8192.rowMajor.symm.injective ?_
    rw [eq_ix1 (S8192.rowMajor.symm n), eq_ix1 (S8192.rowMajor.symm n')]
    exact congrArg ix1 h
  · refine ⟨S8192.rowMajor (ix1 i), ?_, ?_⟩
    · simpa [Equiv.symm_apply_apply] using hi
    · rw [Equiv.symm_apply_apply]; rfl

/-- The sums of the clusters' rows. -/
theorem added_apply (hx : Is x X) {b : IVec S8192 32} (hb : ∀ i, b (ix1 i) = BitVec.ofNat 32 (near X M i).val) (c : Fin 300) (l : Fin 128) :
    added x b (ix2 c l) = ((total X M c l : ℝ) : EReal) := by
  have key : ∀ (i : Fin 8192) (l' : Fin 128), scatter_S300x128_S8192x1_S8192x128_1_0_0_1.resultIdx? (ix2 i l') (wrap b) = some (ix2 c l)
      ↔ near X M i = c ∧ l' = l := fun i l' => by
    rw [lands2, wrap_apply (hb i), toInt_eq_iff]
  have e : total X M c l = ∑ i ∈ Finset.univ.filter (fun i => near X M i = c), X i l := by
    unfold total
    rw [Finset.sum_filter]
  rw [e, coe_sum]
  show Ideal.ofBits .f32 0#32 + ∑ j ∈ Finset.univ.filter (fun j => scatter_S300x128_S8192x1_S8192x128_1_0_0_1.resultIdx? j (wrap b)
      = some (ix2 c l)), x j = _
  rw [Ideal.ofBits_zero_f32, zero_add]
  refine (Finset.sum_bij (fun i _ => ix2 i l) (fun i hi => ?_) (fun i _ i' _ h => ?_) (fun j hj => ?_) fun i _ => (hx i l).symm).symm
  · rw [Finset.mem_filter] at hi ⊢
    exact ⟨Finset.mem_univ _, (key i l).2 ⟨hi.2, rfl⟩⟩
  · exact congrFun h 0
  · have hj := (Finset.mem_filter.1 hj).2
    rw [eq_ix2 j] at hj
    have hk := (key (j 0) (j 1)).1 hj
    refine ⟨j 0, Finset.mem_filter.2 ⟨Finset.mem_univ _, hk.1⟩, ?_⟩
    rw [← hk.2]
    exact (eq_ix2 j).symm

/-- The next means. -/
theorem averages_is (hx : Is x X) (hm : Is mn M) :
    Is (averages (tally (best (distances x mn))) (added x (best (distances x mn))) mn) (step X M) := by
  intro c l
  pointwise [averages]
  rw [tally_apply (best_near hx hm), added_apply hx (best_near hx hm)]
  have hsz : size X M c ≤ 8192 := by
    unfold size
    exact (Finset.card_le_univ _).trans (by simp)
  refine Eq.trans ?_ (step_eq X M c l rfl rfl (hm c l))
  have es : FloatOps.sitofp (F := Ideal) .f32 (BitVec.ofNat 32 (size X M c)) = (((size X M c : ℕ) : ℝ) : EReal) := by
    show (((BitVec.ofNat 32 (size X M c)).toInt : ℝ) : EReal) = _
    rw [toInt_ofNat_small (by omega), Int.cast_natCast]
  have e1 : FloatOps.sitofp (F := Ideal) .f32 (1#32 : BitVec 32) = 1 := by
    show ((((1#32 : BitVec 32).toInt : ℤ) : ℝ) : EReal) = 1
    simp
  have ec : IntOp.cmpi .eq (BitVec.ofNat 32 (size X M c)) 0#32 = if size X M c = 0 then 1#1 else 0#1 := by
    show BitVec.ofBool (BitVec.ofNat 32 (size X M c) == 0#32) = _
    by_cases h : size X M c = 0
    · rw [h]; rfl
    · have : ¬ BitVec.ofNat 32 (size X M c) = 0#32 := fun e => h (by
        have := congrArg BitVec.toNat e
        rw [BitVec.toNat_ofNat, Nat.mod_eq_of_lt (by omega)] at this
        exact this)
      rw [if_neg h, beq_eq_false_iff_ne.2 this]
      rfl
  rw [ec]
  by_cases h : size X M c = 0
  · have h' : (((size X M c : ℕ) : ℝ) : EReal) = 0 := by rw [h]; simp
    rw [if_pos h, if_pos h']
    rfl
  · have h' : ¬ (((size X M c : ℕ) : ℝ) : EReal) = 0 := by exact_mod_cast h
    rw [if_neg h, if_neg h', if_neg h', ← es]
    rfl

end Cert.ReferenceIdeal.Hand
-- ==== Proof.RefEnd.lean ====
/-
  What the reference leaves in its three results, over the extended reals, when its rows and its first means are real numbers.
-/
module

public import proofs.«01_k».proof.Proof.RefMath

@[expose] public section

set_option maxRecDepth 65536

noncomputable section

namespace Cert.ReferenceIdeal.Hand

open Idealize.ShloMosaic Idealize.ShloMosaic.TcCoe Idealize.ShloMosaic.StableHlo
open Cert.ReferenceIdeal Cert.ReferenceIdeal.Gen Cert.Nearest Cert.Spec

/-! ### The operations after the loop -/

/-- Numbers below zero moved up by 300, along a new axis. -/
def places (b : IVec S8x1024 32) : IVec S8x1024x1 32 :=
  broadcastInDim S8x1024x1 ![0, 1] bcast_S8x1024_S8x1024x1_0_1
    (select (cmpi .slt b (broadcastInDim S8x1024 ![] bcast_S_S8x1024 (constantI S_ 32 0#32)))
      (addi b (broadcastInDim S8x1024 ![] bcast_S_S8x1024 (constantI S_ 32 300#32))) b)

/-- Which places are rows of the means. -/
def inside (p : IVec S8x1024x1 32) : IVec S8x1024 1 :=
  Host.reduce IntOp.andi
    (andi (cmpi .sge p (broadcastInDim S8x1024x1 ![] bcast_S_S8x1024x1 (constantI S_ 32 0#32)))
      (cmpi .sle p (broadcastInDim S8x1024x1 ![0, 1, 2] bcast_S1x1x1_S8x1024x1_0_1_2
        (broadcastInDim S1x1x1 ![2] bcast_S1_S1x1x1_2 (constantI S1 32 299#32)))))
    (constantI S_ 1 1#1) reducesTo_S8x1024x1_S8x1024_d2 h_S_

section Ops
variable {F : FTy → Type} [FloatOps F]

/-- The means at the places. -/
def taken (mn : FVec F S300x128 .f32) (b : IVec S8x1024 32) : FVec F S8x1024x128 .f32 :=
  select (broadcastInDim S8x1024x128 ![0, 1] bcast_S8x1024_S8x1024x128_0_1 (inside (places b)))
    (Host.gather gather_S300x128_S8x1024x1_S8x1024x128_2_0_n_n_0_2_1128 mn (places b))
    (broadcastInDim S8x1024x128 ![] bcast_S_S8x1024x128 (constant S_ .f32 0x7FC00000#32))

variable (V : Valuation τ sig (Elt F))

theorem tail_means : after tail.1 V main_v19_3 = V main_v19_3 := by
  simp only [tail, List.cons_append, List.nil_append]
  after_results_simp

theorem tail_best : after tail.1 V main_v20 = shapeCast S8x1024 (V main_v19_4) shapeCasts_S8192_S8x1024 := by
  simp only [tail, List.cons_append, List.nil_append]
  after_results_simp
  rfl

theorem tail_taken : after tail.1 V main_v21 = taken (V main_v19_3) (shapeCast S8x1024 (V main_v19_4) shapeCasts_S8192_S8x1024) := by
  simp only [tail, List.cons_append, List.nil_append]
  after_results_simp
  rfl

end Ops

/-! ### Their values -/

theorem places_apply {b : IVec S8x1024 32} {p : Fin 8} {q : Fin 1024} {c : Fin 300} (h : b (ix2 p q) = BitVec.ofNat 32 c.val) :
    places b (ix3 p q 0) = BitVec.ofNat 32 c.val := by
  pointwise [places]
  rw [h]
  exact Routing.wrap_of_lt _ _ (by rw [BitVec.toNat_ofNat]; omega)

theorem in_range (c : Fin 300) : IntOp.andi (IntOp.cmpi CmpIPredicate.sge (BitVec.ofNat 32 c.val) 0#32)
    (IntOp.cmpi CmpIPredicate.sle (BitVec.ofNat 32 c.val) 299#32) = 1#1 := by
  revert c
  decide

theorem inside_apply {s : IVec S8x1024x1 32} {p : Fin 8} {q : Fin 1024} {c : Fin 300} (h : s (ix3 p q 0) = BitVec.ofNat 32 c.val) :
    inside s (ix2 p q) = 1#1 := by
  pointwise [inside]
  have e : IntOp.andi (IntOp.cmpi CmpIPredicate.sge (s (ix3 p q 0)) 0#32) (IntOp.cmpi CmpIPredicate.sle (s (ix3 p q 0)) 299#32) = 1#1 := by
    rw [h]
    exact in_range c
  rw [Finset.univ_unique, Finset.fold_singleton, show (default : Fin 1) = 0 from rfl, e]
  rfl

theorem gather_apply (mn : FVec Ideal S300x128 .f32) {s : IVec S8x1024x1 32} {p : Fin 8} {q : Fin 1024} {c : Fin 300} (l : Fin 128)
    (h : s (ix3 p q 0) = BitVec.ofNat 32 c.val) :
    Host.gather gather_S300x128_S8x1024x1_S8x1024x128_2_0_n_n_0_2_1128 mn s (ix3 p q l) = mn (ix2 c l) := by
  refine congrArg mn (funext fun a => Fin.ext ?_)
  have hs : gather_S300x128_S8x1024x1_S8x1024x128_2_0_n_n_0_2_1128.start (ix3 p q l) s 0 = c.val := by
    have e : gather_S300x128_S8x1024x1_S8x1024x128_2_0_n_n_0_2_1128.start (ix3 p q l) s 0 = min (s (ix3 p q 0)).toInt.toNat 299 := by
      refine congrArg (fun z => min (s z).toInt.toNat 299) (?_ : gather_S300x128_S8x1024x1_S8x1024x128_2_0_n_n_0_2_1128.siIdx (ix3 p q l) _ = ix3 p q 0)
      funext a
      match a with
      | ⟨0, _⟩ => rfl
      | ⟨1, _⟩ => rfl
      | ⟨2, _⟩ => rfl
    rw [e, h, toInt_ofNat_small (by omega)]
    have := c.isLt
    omega
  match a with
  | ⟨0, _⟩ => exact hs
  | ⟨1, _⟩ =>
    show 0 + 0 + l.val = l.val
    omega

theorem taken_apply (mn : FVec Ideal S300x128 .f32) {b : IVec S8x1024 32} {p : Fin 8} {q : Fin 1024} {c : Fin 300} (l : Fin 128)
    (h : b (ix2 p q) = BitVec.ofNat 32 c.val) : taken mn b (ix3 p q l) = mn (ix2 c l) := by
  pointwise [taken]
  rw [inside_apply (places_apply h), gather_apply mn l (places_apply h)]
  rfl

/-- The row that stands at place `p, q`. -/
def line (p : Fin 8) (q : Fin 1024) : Fin 8192 := ⟨p.val * 1024 + q.val, by omega⟩

theorem cast_apply (b : IVec S8192 32) (p : Fin 8) (q : Fin 1024) :
    shapeCast S8x1024 b shapeCasts_S8192_S8x1024 (ix2 p q) = b (ix1 (line p q)) := by
  pointwise []
  rfl

/-! ### The loop -/

variable (m : (ℓ : Loc nD τ sig) → Buf (Elt Ideal) ℓ) (c : Dev nD)
variable {X : Fin 8192 → Fin 128 → ℝ} {M : Fin 300 → Fin 128 → ℝ}

theorem cond_keep (k : ℕ) : after condOps (trip m k c) main_v19_0 = trip m k c main_v19_0 ∧ after condOps (trip m k c) main_v19_3 = trip m k c main_v19_3
    ∧ after condOps (trip m k c) main_v19_4 = trip m k c main_v19_4 :=
  ⟨condOps_keep _ _ (by decide) (by decide), condOps_keep _ _ (by decide) (by decide), condOps_keep _ _ (by decide) (by decide)⟩

section Loop
variable (h0 : Is (trip m 0 c main_v19_0) X) (h3 : Is (trip m 0 c main_v19_3) M)
include h0 h3

theorem trip_is : ∀ k, Is (trip m k c main_v19_0) X ∧ Is (trip m k c main_v19_3) ((step X)^[k] M)
  | 0 => ⟨h0, h3⟩
  | k + 1 => by
    obtain ⟨a, b⟩ := trip_is k
    obtain ⟨e0, e3, _⟩ := cond_keep m c k
    have r0 : trip m (k + 1) c main_v19_0 = trip m k c main_v19_0 := (body_rows (after condOps (trip m k c))).trans e0
    have r3 : trip m (k + 1) c main_v19_3 = _ := body_means (after condOps (trip m k c))
    rw [r0, r3, e0, e3, Function.iterate_succ_apply']
    exact ⟨a, averages_is a b⟩

theorem trip_best (i : Fin 8192) : trip m 10 c main_v19_4 (ix1 i) = BitVec.ofNat 32 (near X ((step X)^[9] M) i).val := by
  obtain ⟨a, b⟩ := trip_is m c h0 h3 9
  obtain ⟨e0, e3, _⟩ := cond_keep m c 9
  have r : trip m 10 c main_v19_4 = _ := body_best (after condOps (trip m 9 c))
  rw [r, e0, e3]
  exact best_near a b i

/-- What the three results are. -/
theorem result_means : Is (after tail.1 (after condOps (trip m 10 c)) main_v19_3) ((step X)^[10] M) := by
  rw [tail_means, (cond_keep m c 10).2.1]
  exact (trip_is m c h0 h3 10).2

theorem result_best (p : Fin 8) (q : Fin 1024) : after tail.1 (after condOps (trip m 10 c)) main_v20 (ix2 p q)
    = BitVec.ofNat 32 (near X ((step X)^[9] M) (line p q)).val := by
  rw [tail_best, (cond_keep m c 10).2.2]
  exact (cast_apply _ p q).trans (trip_best m c h0 h3 _)

theorem result_taken (p : Fin 8) (q : Fin 1024) (l : Fin 128) : after tail.1 (after condOps (trip m 10 c)) main_v21 (ix3 p q l)
    = (((step X)^[10] M (near X ((step X)^[9] M) (line p q)) l : ℝ) : EReal) := by
  rw [tail_taken, (cond_keep m c 10).2.2, (cond_keep m c 10).2.1]
  exact (taken_apply _ l ((cast_apply _ p q).trans (trip_best m c h0 h3 _))).trans ((trip_is m c h0 h3 10).2 _ _)

end Loop

end Cert.ReferenceIdeal.Hand
-- ==== Proof.Inputs.lean ====
/-
  What the two programs reach before their loops from the same argument: the same rows and the same first means, real numbers
  where the argument is finite.
-/
module

public import proofs.«01_k».proof.Proof.Twins
public import proofs.«01_k».proof.Proof.KernelEnd
public import proofs.«01_k».proof.Proof.RefEnd
public import proofs.«01_k».proof.Pre_finite

@[expose] public section

set_option maxRecDepth 65536
set_option maxHeartbeats 4000000

noncomputable section

namespace Cert.Inputs

open Idealize.ShloMosaic Idealize.ShloMosaic.TcCoe Idealize.ShloMosaic.StableHlo
open Cert.Spec Cert.Twins

/-! ### The reference's rows and first means -/

section Ref
open Cert.ReferenceIdeal Cert.ReferenceIdeal.Gen Cert.ReferenceIdeal.Hand

variable {F : FTy → Type} [FloatOps F]

theorem prelude_rows (V : Valuation τ sig (Elt F)) : after (prelude 0).1 V main_v0 = shapeCast S8192x128 (V main_arg0) shapeCasts_S8x1024x128_S8192x128 := by
  simp only [prelude, shuffle, picks, List.cons_append, List.nil_append]
  after_results_simp
  rfl

theorem prelude_ends : ∃ L : List (HloOp τ sig (Elt F)), (prelude 0).1 = L ++ picks := by
  dsimp only [prelude]
  generalize (shuffle (F := F)).1 = S
  simp only [← List.cons_append]
  exact ⟨_, rfl⟩

theorem picks_rows (V : Valuation τ sig (Elt F)) : after picks V main_v0 = V main_v0 := by
  simp only [picks]
  after_results_simp

theorem picks_means (V : Valuation τ sig (Elt F)) : ∃ s : IVec S300x1 32, after picks V main_v17
    = Host.gather gather_S8192x128_S300x1_S300x128_1_0_n_n_0_1_1128 (V main_v0) s := by
  refine ⟨after picks V main_v16, ?_⟩
  simp only [picks]
  after_results_simp

/-- The first means are rows. -/
theorem prelude_means (V : Valuation τ sig (Elt F)) : ∃ s : IVec S300x1 32, after (prelude 0).1 V main_v17
    = Host.gather gather_S8192x128_S300x1_S300x128_1_0_n_n_0_1_1128 (after (prelude 0).1 V main_v0) s := by
  obtain ⟨L, h⟩ := prelude_ends (F := F)
  rw [h, after_append]
  obtain ⟨s, e⟩ := picks_means (after L V)
  exact ⟨s, by rw [e, picks_rows]⟩

theorem entry_rows (V : Valuation τ sig (Elt F)) : after entry V main_v19_0 = V main_v0 := by
  simp only [entry]
  after_results_simp
  try rfl

theorem entry_means (V : Valuation τ sig (Elt F)) : after entry V main_v19_3 = V main_v17 := by
  simp only [entry]
  after_results_simp
  try rfl

end Ref

/-! ### Both programs -/

section Both
variable {F : FTy → Type} [FloatOps F]
variable (m : (ℓ : Loc KernelIdeal.nD KernelIdeal.τ KernelIdeal.sig) → Buf (Elt F) ℓ)
variable (m' : (ℓ : Loc ReferenceIdeal.nD ReferenceIdeal.τ ReferenceIdeal.sig) → Buf (Elt F) ℓ) (c : Dev KernelIdeal.nD)
variable (h : m' ((c.tc : Thread ReferenceIdeal.nD ReferenceIdeal.τ).loc ReferenceIdeal.main_arg0)
  = m ((c.tc : Thread KernelIdeal.nD KernelIdeal.τ).loc KernelIdeal.main_arg0))
include h

theorem same : Sim 983 (KernelIdeal.Gen.V0 m c) (after (ReferenceIdeal.Hand.prelude 0).1 (launchContents m' c)) := by
  refine prefix_steps _ _ fun r r' t hr => ?_
  have ta : Twin KernelIdeal.main_arg0 ReferenceIdeal.main_arg0 := ⟨rfl, rfl, rfl⟩
  have e : r.idx.val = KernelIdeal.main_arg0.idx.val := by
    have : KernelIdeal.main_arg0.idx.val = 0 := rfl
    omega
  cases t.eq_left ta e
  cases t.symm.eq_left ta.symm (t.idx.symm.trans (e.trans ta.idx))
  exact heq_of_eq h.symm

theorem same_rows : ReferenceIdeal.Hand.trip m' 0 c ReferenceIdeal.main_v19_0 = KernelIdeal.Hand.xin m c :=
  (entry_rows _).trans (eq_of_heq (same m m' c h KernelIdeal.main_v0 ReferenceIdeal.main_v0 ⟨rfl, rfl, rfl⟩ (by decide))).symm

theorem same_means : ReferenceIdeal.Hand.trip m' 0 c ReferenceIdeal.main_v19_3 = KernelIdeal.Hand.min0 m c :=
  (entry_means _).trans (eq_of_heq (same m m' c h KernelIdeal.main_v17 ReferenceIdeal.main_v17 ⟨rfl, rfl, rfl⟩ (by decide))).symm

end Both

/-! ### Real numbers -/

section Real
open Cert.ReferenceIdeal Cert.ReferenceIdeal.Gen Cert.ReferenceIdeal.Hand

variable [Cert.Pre_finite.Facts]

theorem real_of_lt (z : EReal) (h : max z (-z) < ⊤) : ∃ r : ℝ, z = (r : EReal) := by
  induction z with
  | bot => exact absurd h (by simp)
  | coe r => exact ⟨r, rfl⟩
  | top => exact absurd h (by simp)

theorem finite_apply {a : FVec Ideal Pre_finite.S8x1024x128 .f32} (h : Pre_finite.fn a = fun _ => 1#1) (p : Fin 8) (q : Fin 1024) (l : Fin 128) :
    ∃ r : ℝ, a (ix3 p q l) = (r : EReal) := by
  have e := congrFun h (ix3 p q l)
  revert e
  pointwise [Pre_finite.fn]
  generalize a (ix3 p q l) = z
  intro e
  have lt : FloatOps.absf (F := Ideal) (φ := .f32) z < Ideal.ofBits FTy.f32 2139095040#32 := by
    by_contra n
    rw [decide_eq_false n] at e
    exact absurd e (by decide)
  exact real_of_lt z (lt.trans_eq KernelIdeal.Hand.ofBits_inf)

theorem rows_real {a : FVec Ideal S8x1024x128 .f32} (h : ∀ p q l, ∃ r : ℝ, a (ix3 p q l) = (r : EReal)) :
    ∃ X : Fin 8192 → Fin 128 → ℝ, Is (shapeCast S8192x128 a shapeCasts_S8x1024x128_S8192x128) X := by
  have e : ∀ (i : Fin 8192) (l : Fin 128), ∃ r : ℝ, shapeCast S8192x128 a shapeCasts_S8x1024x128_S8192x128 (ix2 i l) = (r : EReal) := fun i l => by
    pointwise []
    exact h _ _ _
  choose X hX using e
  exact ⟨X, hX⟩

theorem picked_real {x : FVec Ideal S8192x128 .f32} {X : Fin 8192 → Fin 128 → ℝ} (h : Is x X) (s : IVec S300x1 32) :
    ∃ M : Fin 300 → Fin 128 → ℝ, Is (Host.gather gather_S8192x128_S300x1_S300x128_1_0_n_n_0_1_1128 x s) M := by
  have e : ∀ y : S8192x128.Idx, ∃ r : ℝ, x y = (r : EReal) := fun y => ⟨X (y 0) (y 1), (congrArg x (eq_ix2 y)).trans (h _ _)⟩
  have e' : ∀ (k : Fin 300) (l : Fin 128), ∃ r : ℝ, Host.gather gather_S8192x128_S300x1_S300x128_1_0_n_n_0_1_1128 x s (ix2 k l) = (r : EReal) :=
    fun k l => e _
  choose M hM using e'
  exact ⟨M, hM⟩

variable (m' : (ℓ : Loc nD τ sig) → Buf (Elt Ideal) ℓ) (c : Dev nD)

/-- With a finite argument, the rows and the first means are real numbers. -/
theorem inputs_real (h : Pre_finite.fn (F := Ideal) (m' ((c.tc : Thread nD τ).loc main_arg0)) = fun _ => 1#1) :
    ∃ (X : Fin 8192 → Fin 128 → ℝ) (M : Fin 300 → Fin 128 → ℝ), Is (trip m' 0 c main_v19_0) X ∧ Is (trip m' 0 c main_v19_3) M := by
  have r0 : trip m' 0 c main_v19_0 = _ := entry_rows (after (prelude 0).1 (launchContents m' c))
  have r3 : trip m' 0 c main_v19_3 = _ := entry_means (after (prelude 0).1 (launchContents m' c))
  have p0 := prelude_rows (launchContents m' c)
  obtain ⟨s, p3⟩ := prelude_means (launchContents m' c)
  obtain ⟨X, hX⟩ := rows_real (finite_apply h)
  have hx : Is (after (prelude 0).1 (launchContents m' c) main_v0) X := by rw [p0]; exact hX
  obtain ⟨M, hM⟩ := picked_real hx s
  refine ⟨X, M, ?_, ?_⟩
  · rw [r0]; exact hx
  · rw [r3, p3]; exact hM

end Real

/-! ### The results -/

section Results

variable [Cert.Pre_finite.Facts]
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ) (c : Dev KernelIdeal.nD)
variable (hp : Pre_finite.fn (F := Ideal) (m ((c.tc : Thread KernelIdeal.nD KernelIdeal.τ).loc KernelIdeal.main_arg0)) = fun _ => 1#1)
variable (h : m' ((c.tc : Thread ReferenceIdeal.nD ReferenceIdeal.τ).loc ReferenceIdeal.main_arg0)
  = m ((c.tc : Thread KernelIdeal.nD KernelIdeal.τ).loc KernelIdeal.main_arg0))
include hp h

/-- Both programs run from the same real rows and first means. -/
theorem both_real : ∃ (X : Fin 8192 → Fin 128 → ℝ) (M : Fin 300 → Fin 128 → ℝ),
    (Is (KernelIdeal.Hand.xin m c) X ∧ Is (KernelIdeal.Hand.min0 m c) M)
    ∧ Is (ReferenceIdeal.Hand.trip m' 0 c ReferenceIdeal.main_v19_0) X ∧ Is (ReferenceIdeal.Hand.trip m' 0 c ReferenceIdeal.main_v19_3) M := by
  obtain ⟨X, M, hx, hm⟩ := inputs_real m' c ((congrArg (Pre_finite.fn (F := Ideal)) h).trans hp)
  exact ⟨X, M, ⟨same_rows m m' c h ▸ hx, same_means m m' c h ▸ hm⟩, hx, hm⟩

theorem means_agree : after ReferenceIdeal.Hand.tail.1 (after ReferenceIdeal.Hand.condOps (ReferenceIdeal.Hand.trip m' 10 c)) ReferenceIdeal.main_v19_3
    = KernelIdeal.Hand.means m c 10 := by
  obtain ⟨X, M, ⟨kx, km⟩, rx, rm⟩ := both_real m m' c hp h
  exact Is.ext (ReferenceIdeal.Hand.result_means m' c rx rm) (KernelIdeal.Hand.means_is m c kx km 10)

theorem best_agree : after ReferenceIdeal.Hand.tail.1 (after ReferenceIdeal.Hand.condOps (ReferenceIdeal.Hand.trip m' 10 c)) ReferenceIdeal.main_v20
    = shapeCast KernelIdeal.S8x1024 (KernelIdeal.Hand.bucket m c 9) KernelIdeal.Gen.facts.shapeCasts_S1x8192_S8x1024 := by
  obtain ⟨X, M, ⟨kx, km⟩, rx, rm⟩ := both_real m m' c hp h
  funext j
  rw [eq_ix2 j]
  exact (ReferenceIdeal.Hand.result_best m' c rx rm _ _).trans
    ((KernelIdeal.Hand.cast_best _ _ _).trans (KernelIdeal.Hand.bucket_is m c kx km 9 _)).symm

theorem laid_agree : after ReferenceIdeal.Hand.tail.1 (after ReferenceIdeal.Hand.condOps (ReferenceIdeal.Hand.trip m' 10 c)) ReferenceIdeal.main_v21
    = shapeCast KernelIdeal.S8x1024x128 (KernelIdeal.Gen.k0_pay16 (KernelIdeal.Hand.bucket m c 9) (KernelIdeal.Hand.means m c 10))
        KernelIdeal.Gen.facts.shapeCasts_S8192x128_S8x1024x128 := by
  obtain ⟨X, M, ⟨kx, km⟩, rx, rm⟩ := both_real m m' c hp h
  funext j
  rw [eq_ix3 j]
  exact (ReferenceIdeal.Hand.result_taken m' c rx rm _ _ _).trans
    ((KernelIdeal.Hand.cast_laid _ _ _ _).trans (KernelIdeal.Hand.laid_is m c kx km _ _)).symm

end Results

end Cert.Inputs
end
-- ==== Proof.lean ====
module

public import proofs.«01_k».proof.Defs
public import proofs.«01_k».proof.Proof.FrameK
public import proofs.«01_k».proof.Proof.FrameI
public import proofs.«01_k».proof.Proof.RefRun
public import proofs.«01_k».proof.Proof.Inputs
public import Idealize.ShloMosaic.Adequacy
public import Idealize.ShloMosaic.Init

@[expose] public section

noncomputable section

namespace Cert.Proof

open Idealize.ShloMosaic Idealize.SL.Sem Cert.Kernel

/-- The precondition's one side condition, a broadcast the reference has too. -/
theorem pre_facts : Cert.Pre_finite.Facts := ⟨Cert.ReferenceIdeal.Gen.facts.bcast_S_S8x1024x128⟩

attribute [local instance] pre_facts in
/-- The kernel and the reference end with equal results. -/
theorem agree : Cert.algebraic_KernelIdeal_ReferenceIdeal_pre_finite
    (hKernelIdeal := Cert.KernelIdeal.Gen.facts) (hReferenceIdeal := Cert.ReferenceIdeal.Gen.facts) (hPre_finite := pre_facts) := by
  intro m g m' g' hp h
  refine ⟨_, _, _, (θ_run _ _ _).mono (fun r hr c => ⟨(hr.1 c).1, (hr.1 c).2.1, (hr.1 c).2.2, hr.2 c⟩)
    (θ_run_and (Cert.KernelIdeal.Hand.results m g) (Cert.KernelIdeal.Hand.unchanged m g)), ?_⟩
  refine (θ_run _ _ _).mono (fun r hr c => ⟨?_, ?_, ?_, ?_⟩) (Cert.ReferenceIdeal.Hand.run_main m' g')
  · exact (hr c Cert.ReferenceIdeal.main_v21 rfl).trans (Cert.Inputs.laid_agree m m' c (hp c) (h c))
  · exact (hr c Cert.ReferenceIdeal.main_v20 rfl).trans (Cert.Inputs.best_agree m m' c (hp c) (h c))
  · exact (hr c Cert.ReferenceIdeal.main_v19_3 rfl).trans (Cert.Inputs.means_agree m m' c (hp c) (h c))
  · exact (hr c Cert.ReferenceIdeal.main_arg0 rfl).trans ((Cert.ReferenceIdeal.Hand.tail_arg _).trans
      ((Cert.ReferenceIdeal.Hand.condOps_keep _ _ (by decide) (by decide)).trans (Cert.ReferenceIdeal.Hand.trip_arg m' c 10)))

theorem claim : Cert.Claim := ⟨Cert.Kernel.Gen.facts, Cert.KernelIdeal.Gen.facts, Cert.ReferenceIdeal.Gen.facts, pre_facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  trivial,
  agree⟩

end Cert.Proof

end
